-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x4 : Shape := ⟨2, ![20000, 4]⟩
abbrev S20000x80 : Shape := ⟨2, ![20000, 80]⟩
abbrev S20000 : Shape := ⟨1, ![20000]⟩
abbrev S1000 : Shape := ⟨1, ![1000]⟩
abbrev S_ : Shape := ⟨0, ![]⟩
abbrev S1000x1 : Shape := ⟨2, ![1000, 1]⟩
abbrev S1000x4 : Shape := ⟨2, ![1000, 4]⟩
abbrev S1024x4 : Shape := ⟨2, ![1024, 4]⟩
abbrev S1024 : Shape := ⟨1, ![1024]⟩
abbrev S1024x1 : Shape := ⟨2, ![1024, 1]⟩
abbrev S4x1024 : Shape := ⟨2, ![4, 1024]⟩
abbrev S100x5 : Shape := ⟨2, ![100, 5]⟩
abbrev S1024x1024 : Shape := ⟨2, ![1024, 1024]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩
abbrev S100x1024 : Shape := ⟨2, ![100, 1024]⟩
abbrev S1024x5 : Shape := ⟨2, ![1024, 5]⟩

abbrev nBuf : Space → Nat
  | .hbm => 37
  | .vmem => 9
  | .smem => 0
  | _ => 0

abbrev bufTy : (tb : Table) → Fin (tcTables nBuf tb) → BufTy
  | .hbm, ⟨0, _⟩ => ⟨S20000x4, .f32⟩
  | .hbm, ⟨1, _⟩ => ⟨S20000x4, .f32⟩
  | .hbm, ⟨2, _⟩ => ⟨S20000x80, .f32⟩
  | .hbm, ⟨3, _⟩ => ⟨S20000, .f32⟩
  | .hbm, ⟨4, _⟩ => ⟨S1000, .f32⟩
  | .hbm, ⟨5, _⟩ => ⟨S1000, .i32⟩
  | .hbm, ⟨6, _⟩ => ⟨S_, .i32⟩
  | .hbm, ⟨7, _⟩ => ⟨S1000, .i32⟩
  | .hbm, ⟨8, _⟩ => ⟨S1000, .i1⟩
  | .hbm, ⟨9, _⟩ => ⟨S_, .i32⟩
  | .hbm, ⟨10, _⟩ => ⟨S1000, .i32⟩
  | .hbm, ⟨11, _⟩ => ⟨S1000, .i32⟩
  | .hbm, ⟨12, _⟩ => ⟨S1000, .i32⟩
  | .hbm, ⟨13, _⟩ => ⟨S1000x1, .i32⟩
  | .hbm, ⟨14, _⟩ => ⟨S1000x4, .f32⟩
  | .hbm, ⟨15, _⟩ => ⟨S_, .i32⟩
  | .hbm, ⟨16, _⟩ => ⟨S_, .f32⟩
  | .hbm, ⟨17, _⟩ => ⟨S1024x4, .f32⟩
  | .hbm, ⟨18, _⟩ => ⟨S_, .i32⟩
  | .hbm, ⟨19, _⟩ => ⟨S1000, .i32⟩
  | .hbm, ⟨20, _⟩ => ⟨S1000, .i1⟩
  | .hbm, ⟨21, _⟩ => ⟨S_, .i32⟩
  | .hbm, ⟨22, _⟩ => ⟨S1000, .i32⟩
  | .hbm, ⟨23, _⟩ => ⟨S1000, .i32⟩
  | .hbm, ⟨24, _⟩ => ⟨S1000, .i32⟩
  | .hbm, ⟨25, _⟩ => ⟨S1000x1, .i32⟩
  | .hbm, ⟨26, _⟩ => ⟨S1000x4, .f32⟩
  | .hbm, ⟨27, _⟩ => ⟨S_, .i32⟩
  | .hbm, ⟨28, _⟩ => ⟨S_, .f32⟩
  | .hbm, ⟨29, _⟩ => ⟨S1024x4, .f32⟩
  | .hbm, ⟨30, _⟩ => ⟨S_, .f32⟩
  | .hbm, ⟨31, _⟩ => ⟨S_, .f32⟩
  | .hbm, ⟨32, _⟩ => ⟨S1024, .f32⟩
  | .hbm, ⟨33, _⟩ => ⟨S1024x1, .f32⟩
  | .hbm, ⟨34, _⟩ => ⟨S4x1024, .f32⟩
  | .hbm, ⟨35, _⟩ => ⟨S4x1024, .f32⟩
  | .hbm, ⟨36, _⟩ => ⟨S100x5, .f32⟩
  | .local _ .vmem, ⟨0, _⟩ => ⟨S20000x80, .f32⟩
  | .local _ .vmem, ⟨1, _⟩ => ⟨S20000, .f32⟩
  | .local _ .vmem, ⟨2, _⟩ => ⟨S1024x1, .f32⟩
  | .local _ .vmem, ⟨3, _⟩ => ⟨S1024x4, .f32⟩
  | .local _ .vmem, ⟨4, _⟩ => ⟨S4x1024, .f32⟩
  | .local _ .vmem, ⟨5, _⟩ => ⟨S1024x4, .f32⟩
  | .local _ .vmem, ⟨6, _⟩ => ⟨S4x1024, .f32⟩
  | .local _ .vmem, ⟨7, _⟩ => ⟨S100x5, .f32⟩
  | .local _ .vmem, ⟨8, _⟩ => ⟨S1024x1024, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_values : Ref sig .tc := ⟨.hbm, 4, rfl⟩
abbrev main_indices : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call0_v0 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_call1_v0 : Ref sig .tc := ⟨.hbm, 28, rfl⟩
abbrev main_v16 : Ref sig .tc := ⟨.hbm, 29, rfl⟩
abbrev main_cst : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_scratch0 : Ref sig .tc := ⟨.vmem, 8, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem3_0 : DmaSem sig := 5
abbrev cc1_sem4_0 : DmaSem sig := 6
abbrev cc1_sem5_0 : DmaSem sig := 7

abbrev nD : Nat := 1
abbrev τ : Topo := Topo.v7x

variable {F : FTy → Type} [FloatOps F]

abbrev grid0 : Pipeline.Grid := .none

abbrev stage0_0 : Fin 1 → Memref sig .tc .vmem S20000x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c1000_i32 : BitVec 32 := 1000#32
  let v173 : BitVec 32 := Scalar.addi c0_i32 c1000_i32
  let c1_i32 : BitVec 32 := 1#32
  ⟨c0_i32, v173, c1_i32⟩
def k1_off1 (k1_t1 : Fin k1_t1_loop.trips) : Fin 2 → Nat :=
  let c0_i32 : BitVec 32 := 0#32
  let c1_i32 : BitVec 32 := 1#32
  let arg7 : BitVec 32 := Scf.iv c0_i32 c1_i32 k1_t1
  let v236 : Index := Scalar.indexCast arg7
  let c0_100 : Index := 0#32
  ![v236.toNat, 0]
abbrev stage1_0 : Fin 1 → Memref sig .tc .vmem S1024x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S100x5 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S20000x4 : Shape := ⟨2, ![20000, 4]⟩
abbrev S20000x80 : Shape := ⟨2, ![20000, 80]⟩
abbrev S4 : Shape := ⟨1, ![4]⟩
abbrev S1x4 : Shape := ⟨2, ![1, 4]⟩
abbrev S20000x1 : Shape := ⟨2, ![20000, 1]⟩
abbrev S20000 : Shape := ⟨1, ![20000]⟩
abbrev S_ : Shape := ⟨0, ![]⟩
abbrev S1000 : Shape := ⟨1, ![1000]⟩
abbrev S1000x1 : Shape := ⟨2, ![1000, 1]⟩
abbrev S1000x4 : Shape := ⟨2, ![1000, 4]⟩
abbrev S1000x2 : Shape := ⟨2, ![1000, 2]⟩
abbrev S1000x1x2 : Shape := ⟨3, ![1000, 1, 2]⟩
abbrev S1x1000x2 : Shape := ⟨3, ![1, 1000, 2]⟩
abbrev S1000x1000x2 : Shape := ⟨3, ![1000, 1000, 2]⟩
abbrev S1000x1000x1 : Shape := ⟨3, ![1000, 1000, 1]⟩
abbrev S1000x1000 : Shape := ⟨2, ![1000, 1000]⟩
abbrev S1x1000 : Shape := ⟨2, ![1, 1000]⟩
abbrev S1 : Shape := ⟨1, ![1]⟩
abbrev S100 : Shape := ⟨1, ![100]⟩
abbrev S100x1 : Shape := ⟨2, ![100, 1]⟩
abbrev S100x4 : Shape := ⟨2, ![100, 4]⟩
abbrev S100x5 : Shape := ⟨2, ![100, 5]⟩

abbrev nBuf : Space → Nat
  | .hbm => 230
  | .vmem => 0
  | .smem => 0
  | _ => 0

abbrev hbmTy0_0 (i : Nat) : BufTy := match i % 128 with
  | 0 => ⟨S20000x4, .f32⟩
  | 1 => ⟨S20000x4, .f32⟩
  | 2 => ⟨S20000x80, .f32⟩
  | 3 => ⟨S4, .f32⟩
  | 4 => ⟨S4, .f32⟩
  | 5 => ⟨S1x4, .f32⟩
  | 6 => ⟨S20000x4, .f32⟩
  | 7 => ⟨S20000x4, .f32⟩
  | 8 => ⟨S1x4, .f32⟩
  | 9 => ⟨S20000x4, .f32⟩
  | 10 => ⟨S20000x4, .f32⟩
  | 11 => ⟨S20000x1, .f32⟩
  | 12 => ⟨S20000, .f32⟩
  | 13 => ⟨S20000x1, .f32⟩
  | 14 => ⟨S20000, .f32⟩
  | 15 => ⟨S20000, .f32⟩
  | 16 => ⟨S_, .f32⟩
  | 17 => ⟨S20000, .f32⟩
  | 18 => ⟨S20000, .f32⟩
  | 19 => ⟨S20000x1, .f32⟩
  | 20 => ⟨S20000, .f32⟩
  | 21 => ⟨S20000x1, .f32⟩
  | 22 => ⟨S20000, .f32⟩
  | 23 => ⟨S20000, .f32⟩
  | 24 => ⟨S_, .f32⟩
  | 25 => ⟨S20000, .f32⟩
  | 26 => ⟨S20000, .f32⟩
  | 27 => ⟨S20000x1, .f32⟩
  | 28 => ⟨S20000, .f32⟩
  | 29 => ⟨S20000x1, .f32⟩
  | 30 => ⟨S20000, .f32⟩
  | 31 => ⟨S20000, .f32⟩
  | 32 => ⟨S20000x1, .f32⟩
  | 33 => ⟨S20000, .f32⟩
  | 34 => ⟨S20000x1, .f32⟩
  | 35 => ⟨S20000, .f32⟩
  | 36 => ⟨S20000, .f32⟩
  | 37 => ⟨S20000x1, .f32⟩
  | 38 => ⟨S20000, .f32⟩
  | 39 => ⟨S_, .f32⟩
  | 40 => ⟨S_, .f32⟩
  | 41 => ⟨S_, .f32⟩
  | 42 => ⟨S20000, .f32⟩
  | 43 => ⟨S20000, .f32⟩
  | 44 => ⟨S_, .f32⟩
  | 45 => ⟨S20000, .f32⟩
  | 46 => ⟨S20000, .f32⟩
  | 47 => ⟨S20000x1, .f32⟩
  | 48 => ⟨S20000, .f32⟩
  | 49 => ⟨S_, .f32⟩
  | 50 => ⟨S_, .f32⟩
  | 51 => ⟨S_, .f32⟩
  | 52 => ⟨S20000, .f32⟩
  | 53 => ⟨S20000, .f32⟩
  | 54 => ⟨S_, .f32⟩
  | 55 => ⟨S20000, .f32⟩
  | 56 => ⟨S20000, .f32⟩
  | 57 => ⟨S20000x1, .f32⟩
  | 58 => ⟨S20000, .f32⟩
  | 59 => ⟨S20000, .f32⟩
  | 60 => ⟨S20000, .f32⟩
  | 61 => ⟨S20000x1, .f32⟩
  | 62 => ⟨S20000, .f32⟩
  | 63 => ⟨S20000, .f32⟩
  | 64 => ⟨S20000, .f32⟩
  | 65 => ⟨S20000, .f32⟩
  | 66 => ⟨S20000, .f32⟩
  | 67 => ⟨S20000, .f32⟩
  | 68 => ⟨S20000, .f32⟩
  | 69 => ⟨S_, .f32⟩
  | 70 => ⟨S20000, .f32⟩
  | 71 => ⟨S20000, .f32⟩
  | 72 => ⟨S20000, .f32⟩
  | 73 => ⟨S_, .f32⟩
  | 74 => ⟨S20000, .f32⟩
  | 75 => ⟨S20000, .f32⟩
  | 76 => ⟨S20000, .f32⟩
  | 77 => ⟨S_, .f32⟩
  | 78 => ⟨S20000, .f32⟩
  | 79 => ⟨S20000, .f32⟩
  | 80 => ⟨S20000, .f32⟩
  | 81 => ⟨S_, .f32⟩
  | 82 => ⟨S20000, .f32⟩
  | 83 => ⟨S20000, .f32⟩
  | 84 => ⟨S20000, .f32⟩
  | 85 => ⟨S20000x1, .f32⟩
  | 86 => ⟨S20000x1, .f32⟩
  | 87 => ⟨S20000x1, .f32⟩
  | 88 => ⟨S20000x1, .f32⟩
  | 89 => ⟨S20000x4, .f32⟩
  | 90 => ⟨S_, .f32⟩
  | 91 => ⟨S_, .f32⟩
  | 92 => ⟨S_, .f32⟩
  | 93 => ⟨S20000x4, .f32⟩
  | 94 => ⟨S20000x4, .f32⟩
  | 95 => ⟨S_, .f32⟩
  | 96 => ⟨S20000x4, .f32⟩
  | 97 => ⟨S20000x4, .f32⟩
  | 98 => ⟨S20000x80, .f32⟩
  | 99 => ⟨S20000x80, .f32⟩
  | 100 => ⟨S_, .f32⟩
  | 101 => ⟨S20000x80, .f32⟩
  | 102 => ⟨S20000x80, .f32⟩
  | 103 => ⟨S_, .f32⟩
  | 104 => ⟨S20000x80, .f32⟩
  | 105 => ⟨S20000x80, .f32⟩
  | 106 => ⟨S_, .f32⟩
  | 107 => ⟨S20000, .f32⟩
  | 108 => ⟨S1000, .f32⟩
  | 109 => ⟨S1000, .i32⟩
  | 110 => ⟨S_, .i32⟩
  | 111 => ⟨S1000, .i32⟩
  | 112 => ⟨S1000, .i1⟩
  | 113 => ⟨S_, .i32⟩
  | 114 => ⟨S1000, .i32⟩
  | 115 => ⟨S1000, .i32⟩
  | 116 => ⟨S1000, .i32⟩
  | 117 => ⟨S1000x1, .i32⟩
  | 118 => ⟨S1000x4, .f32⟩
  | 119 => ⟨S1000x2, .f32⟩
  | 120 => ⟨S1000x1x2, .f32⟩
  | 121 => ⟨S1000x2, .f32⟩
  | 122 => ⟨S1x1000x2, .f32⟩
  | 123 => ⟨S1000x1000x2, .f32⟩
  | 124 => ⟨S1000x1000x2, .f32⟩
  | 125 => ⟨S1000x1000x2, .f32⟩
  | 126 => ⟨S1000x2, .f32⟩
  | 127 => ⟨S1000x1x2, .f32⟩
  | _ => ⟨S20000x4, .f32⟩

abbrev hbmTy0_1 (i : Nat) : BufTy := match i % 128 with
  | 0 => ⟨S1000x2, .f32⟩
  | 1 => ⟨S1x1000x2, .f32⟩
  | 2 => ⟨S1000x1000x2, .f32⟩
  | 3 => ⟨S1000x1000x2, .f32⟩
  | 4 => ⟨S1000x1000x2, .f32⟩
  | 5 => ⟨S1000x1000x2, .f32⟩
  | 6 => ⟨S_, .f32⟩
  | 7 => ⟨S_, .f32⟩
  | 8 => ⟨S1000x1000x2, .f32⟩
  | 9 => ⟨S1000x1000x2, .f32⟩
  | 10 => ⟨S1000x1000x1, .f32⟩
  | 11 => ⟨S1000x1000, .f32⟩
  | 12 => ⟨S1000x1000x1, .f32⟩
  | 13 => ⟨S1000x1000, .f32⟩
  | 14 => ⟨S1000x1000, .f32⟩
  | 15 => ⟨S1000x1, .f32⟩
  | 16 => ⟨S1000, .f32⟩
  | 17 => ⟨S1000x1, .f32⟩
  | 18 => ⟨S1000, .f32⟩
  | 19 => ⟨S1000, .f32⟩
  | 20 => ⟨S1000x1, .f32⟩
  | 21 => ⟨S1000, .f32⟩
  | 22 => ⟨S1000x1, .f32⟩
  | 23 => ⟨S1000, .f32⟩
  | 24 => ⟨S1000, .f32⟩
  | 25 => ⟨S1000, .f32⟩
  | 26 => ⟨S1000x1, .f32⟩
  | 27 => ⟨S1x1000, .f32⟩
  | 28 => ⟨S1000x1000, .f32⟩
  | 29 => ⟨S1000x1000, .f32⟩
  | 30 => ⟨S1000x1000, .f32⟩
  | 31 => ⟨S1000x1000, .f32⟩
  | 32 => ⟨S_, .f32⟩
  | 33 => ⟨S1000x1000, .f32⟩
  | 34 => ⟨S1000x1000, .f32⟩
  | 35 => ⟨S1000x1000, .f32⟩
  | 36 => ⟨S1000, .i32⟩
  | 37 => ⟨S_, .i1⟩
  | 38 => ⟨S1000, .i1⟩
  | 39 => ⟨S_, .i32⟩
  | 40 => ⟨S_, .i32⟩
  | 41 => ⟨S1000x1000, .f32⟩
  | 42 => ⟨S1000, .i32⟩
  | 43 => ⟨S_, .i32⟩
  | 44 => ⟨S_, .i32⟩
  | 45 => ⟨S1000, .i1⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S1x1000, .f32⟩
  | 65 => ⟨S1000, .f32⟩
  | 66 => ⟨S_, .f32⟩
  | 67 => ⟨S1000, .f32⟩
  | 68 => ⟨S1000, .i1⟩
  | 69 => ⟨S_, .i32⟩
  | 70 => ⟨S1000, .i32⟩
  | 71 => ⟨S1000, .i1⟩
  | 72 => ⟨S1000, .i1⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S1, .i1⟩
  | 80 => ⟨S_, .i1⟩
  | 81 => ⟨S1000, .i1⟩
  | 82 => ⟨S1000, .i1⟩
  | 83 => ⟨S_, .i32⟩
  | 84 => ⟨S_, .i32⟩
  | 85 => ⟨S_, .f32⟩
  | 86 => ⟨S_, .f32⟩
  | 87 => ⟨S1000, .f32⟩
  | 88 => ⟨S1000, .f32⟩
  | 89 => ⟨S100, .f32⟩
  | 90 => ⟨S100, .i32⟩
  | 91 => ⟨S_, .i32⟩
  | 92 => ⟨S100, .i32⟩
  | 93 => ⟨S100, .i1⟩
  | 94 => ⟨S_, .i32⟩
  | 95 => ⟨S100, .i32⟩
  | 96 => ⟨S100, .i32⟩
  | 97 => ⟨S100, .i32⟩
  | 98 => ⟨S100x1, .i32⟩
  | 99 => ⟨S100x4, .f32⟩
  | 100 => ⟨S100x1, .f32⟩
  | 101 => ⟨S100x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_values : Ref sig .tc := ⟨.hbm, 108, rfl⟩
abbrev main_indices : Ref sig .tc := ⟨.hbm, 109, rfl⟩
abbrev main_c : Ref sig .tc := ⟨.hbm, 110, rfl⟩
abbrev main_v73 : Ref sig .tc := ⟨.hbm, 111, rfl⟩
abbrev main_v74 : Ref sig .tc := ⟨.hbm, 112, rfl⟩
abbrev main_c_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_17 : Ref sig .tc := ⟨.hbm, 134, rfl⟩
abbrev main_call3_v0 : Ref sig .tc := ⟨.hbm, 135, rfl⟩
abbrev main_call3_v1 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_18 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_19 : Ref sig .tc := ⟨.hbm, 165, rfl⟩
abbrev main_v122 : Ref sig .tc := ⟨.hbm, 166, rfl⟩
abbrev main_c_20 : Ref sig .tc := ⟨.hbm, 167, rfl⟩
abbrev main_c_21 : Ref sig .tc := ⟨.hbm, 168, rfl⟩
abbrev main_v123_0 : Ref sig .tc := ⟨.hbm, 169, rfl⟩
abbrev main_v123_1 : Ref sig .tc := ⟨.hbm, 170, rfl⟩
abbrev main_v123_2 : Ref sig .tc := ⟨.hbm, 171, rfl⟩
abbrev main_v123_3 : Ref sig .tc := ⟨.hbm, 172, rfl⟩
abbrev main_v123_4 : Ref sig .tc := ⟨.hbm, 173, rfl⟩
abbrev main_while0c_c_31 : Ref sig .tc := ⟨.hbm, 174, rfl⟩
abbrev main_while0c_v134 : Ref sig .tc := ⟨.hbm, 175, rfl⟩
abbrev main_while0b_c_31 : Ref sig .tc := ⟨.hbm, 176, rfl⟩
abbrev main_while0b_v134 : Ref sig .tc := ⟨.hbm, 177, rfl⟩
abbrev main_while0b_v135 : Ref sig .tc := ⟨.hbm, 178, rfl⟩
abbrev main_while0b_c_32 : Ref sig .tc := ⟨.hbm, 179, rfl⟩
abbrev main_while0b_v136 : Ref sig .tc := ⟨.hbm, 180, rfl⟩
abbrev main_while0b_c_33 : Ref sig .tc := ⟨.hbm, 181, rfl⟩
abbrev main_while0b_v137 : Ref sig .tc := ⟨.hbm, 182, rfl⟩
abbrev main_while0b_v138 : Ref sig .tc := ⟨.hbm, 183, rfl⟩
abbrev main_while0b_c_34 : Ref sig .tc := ⟨.hbm, 184, rfl⟩
abbrev main_while0b_c_35 : Ref sig .tc := ⟨.hbm, 185, rfl⟩
abbrev main_while0b_v139 : Ref sig .tc := ⟨.hbm, 186, rfl⟩
abbrev main_while0b_c_36 : Ref sig .tc := ⟨.hbm, 187, rfl⟩
abbrev main_while0b_c_37 : Ref sig .tc := ⟨.hbm, 188, rfl⟩
abbrev main_while0b_v140 : Ref sig .tc := ⟨.hbm, 189, rfl⟩
abbrev main_while0b_c_38 : Ref sig .tc := ⟨.hbm, 190, rfl⟩
abbrev main_while0b_v141 : Ref sig .tc := ⟨.hbm, 191, rfl⟩
abbrev main_while0b_v142 : Ref sig .tc := ⟨.hbm, 192, rfl⟩
abbrev main_while0b_v143 : Ref sig .tc := ⟨.hbm, 193, rfl⟩
abbrev main_while0b_cst_39 : Ref sig .tc := ⟨.hbm, 194, rfl⟩
abbrev main_while0b_v144 : Ref sig .tc := ⟨.hbm, 195, rfl⟩
abbrev main_while0b_v145 : Ref sig .tc := ⟨.hbm, 196, rfl⟩
abbrev main_while0b_v146 : Ref sig .tc := ⟨.hbm, 197, rfl⟩
abbrev main_while0b_v147 : Ref sig .tc := ⟨.hbm, 198, rfl⟩
abbrev main_while0b_v148 : Ref sig .tc := ⟨.hbm, 199, rfl⟩
abbrev main_while0b_v149 : Ref sig .tc := ⟨.hbm, 200, rfl⟩
abbrev main_while0b_c_40 : Ref sig .tc := ⟨.hbm, 201, rfl⟩
abbrev main_while0b_v150 : Ref sig .tc := ⟨.hbm, 202, rfl⟩
abbrev main_while0b_v151 : Ref sig .tc := ⟨.hbm, 203, rfl⟩
abbrev main_while0b_c_41 : Ref sig .tc := ⟨.hbm, 204, rfl⟩
abbrev main_while0b_v152 : Ref sig .tc := ⟨.hbm, 205, rfl⟩
abbrev main_while0b_v153 : Ref sig .tc := ⟨.hbm, 206, rfl⟩
abbrev main_while0b_v154 : Ref sig .tc := ⟨.hbm, 207, rfl⟩
abbrev main_while0b_v155 : Ref sig .tc := ⟨.hbm, 208, rfl⟩
abbrev main_while0b_v156 : Ref sig .tc := ⟨.hbm, 209, rfl⟩
abbrev main_while0b_v157 : Ref sig .tc := ⟨.hbm, 210, rfl⟩
abbrev main_while0b_c_42 : Ref sig .tc := ⟨.hbm, 211, rfl⟩
abbrev main_while0b_v158 : Ref sig .tc := ⟨.hbm, 212, rfl⟩
abbrev main_cst_22 : Ref sig .tc := ⟨.hbm, 213, rfl⟩
abbrev main_call5_v0 : Ref sig .tc := ⟨.hbm, 214, rfl⟩
abbrev main_call5_v1 : Ref sig .tc := ⟨.hbm, 215, rfl⟩
abbrev main_v124 : Ref sig .tc := ⟨.hbm, 216, rfl⟩
abbrev main_values_23 : Ref sig .tc := ⟨.hbm, 217, rfl⟩
abbrev main_indices_24 : Ref sig .tc := ⟨.hbm, 218, rfl⟩
abbrev main_c_25 : Ref sig .tc := ⟨.hbm, 219, rfl⟩
abbrev main_v125 : Ref sig .tc := ⟨.hbm, 220, rfl⟩
abbrev main_v126 : Ref sig .tc := ⟨.hbm, 221, rfl⟩
abbrev main_c_26 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩

abbrev nD : Nat := 1
abbrev τ : Topo := Topo.v7x

variable {F : FTy → Type} [FloatOps F]

abbrev main_while0_count : Scf.Loop 32 := ⟨0#32, 1000#32, 1#32⟩
-- ==== Proof.KernelRun.lean ====
/- The run of the kernel's program: the result array ends at what the second region's write-backs leave, and the
   arguments are untouched. -/
module

public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result array at the second region's exit contents and the arguments as launched. -/
theorem run : θ_run defs (onTc (τ := τ) (main (F := F))) ⟨m, fun _ => 0, ρ⟩ (fun r => ∀ c : Dev nD,
      r.2.mem ((c.tc : Thread nD τ).loc main_v21) = W9 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v21 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.KernelIdeal.Hand

end
-- ==== Proof.KernelBlock.lean ====
/- What the second region's block computes, as one function of the five blocks it reads. -/
module

public import proofs.«01_k».proof.Proof.Gen.KernelIdeal.Frame
public import Idealize.ShloMosaic.Lib.Pipeline.Value

@[expose] public section

set_option maxRecDepth 65536

noncomputable section

namespace Cert.KernelIdeal.Hand

open Idealize.ShloMosaic Idealize.ShloMosaic.TcCoe Idealize.ShloMosaic.Tactic
open Cert.KernelIdeal.Gen

variable {F : FTy → Type} [FloatOps F]

/-- Column `k` of a block of 1024 rows. -/
def colOf (x : Vec F S1024x4 .f32) (k : ℕ) (h : ∀ a, (![0, k] : Fin 2 → ℕ) a + S1024x1.size a ≤ S1024x4.size a) : Vec F S1024x1 .f32 :=
  View.ld x (Rect.unit (s := S1024x4) ![0, k] S1024x1.size h)

/-- Row `k` of a block of 1024 columns. -/
def rowOf (x : Vec F S4x1024 .f32) (k : ℕ) (h : ∀ a, (![k, 0] : Fin 2 → ℕ) a + S1x1024.size a ≤ S4x1024.size a) : Vec F S1x1024 .f32 :=
  View.ld x (Rect.unit (s := S4x1024) ![k, 0] S1x1024.size h)

section Corners
variable (p d : Vec F S1024x4 .f32)

/-- The decoded left edges, as a column. -/
def colX1 : FVec F S1024x1 .f32 :=
  k1_pay13 (k1_pay9 (colOf p 0 inb_S1024x4_S1024x1_0_0) (colOf p 2 inb_S1024x4_S1024x1_0_2) (colOf d 0 inb_S1024x4_S1024x1_0_0))
    (k1_pay11 (colOf p 0 inb_S1024x4_S1024x1_0_0) (colOf p 2 inb_S1024x4_S1024x1_0_2) (colOf d 2 inb_S1024x4_S1024x1_0_2))
/-- The decoded top edges. -/
def colY1 : FVec F S1024x1 .f32 :=
  k1_pay14 (k1_pay7 (colOf p 1 inb_S1024x4_S1024x1_0_1) (colOf p 3 inb_S1024x4_S1024x1_0_3)) (k1_pay8 (colOf d 3 inb_S1024x4_S1024x1_0_3))
    (k1_pay10 (colOf p 1 inb_S1024x4_S1024x1_0_1) (colOf p 3 inb_S1024x4_S1024x1_0_3) (colOf d 1 inb_S1024x4_S1024x1_0_1))
/-- The decoded right edges. -/
def colX2 : FVec F S1024x1 .f32 :=
  k1_pay15 (k1_pay9 (colOf p 0 inb_S1024x4_S1024x1_0_0) (colOf p 2 inb_S1024x4_S1024x1_0_2) (colOf d 0 inb_S1024x4_S1024x1_0_0))
    (k1_pay11 (colOf p 0 inb_S1024x4_S1024x1_0_0) (colOf p 2 inb_S1024x4_S1024x1_0_2) (colOf d 2 inb_S1024x4_S1024x1_0_2))
/-- The decoded bottom edges. -/
def colY2 : FVec F S1024x1 .f32 :=
  k1_pay16 (k1_pay7 (colOf p 1 inb_S1024x4_S1024x1_0_1) (colOf p 3 inb_S1024x4_S1024x1_0_3)) (k1_pay8 (colOf d 3 inb_S1024x4_S1024x1_0_3))
    (k1_pay10 (colOf p 1 inb_S1024x4_S1024x1_0_1) (colOf p 3 inb_S1024x4_S1024x1_0_3) (colOf d 1 inb_S1024x4_S1024x1_0_1))

end Corners

/-- The pairwise overlap ratios of the decoded boxes, from the columns and from the rows. -/
def iouOf (p : Vec F S1024x4 .f32) (pt : Vec F S4x1024 .f32) (d : Vec F S1024x4 .f32) (dt : Vec F S4x1024 .f32) : FVec F S1024x1024 .f32 :=
  k1_pay29 (colX1 p d) (colY1 p d) (colX2 p d) (colY2 p d)
    (k1_pay23 (k1_pay17 (rowOf pt 0 inb_S4x1024_S1x1024_0_0)) (k1_pay19 (rowOf pt 2 inb_S4x1024_S1x1024_2_0)) (rowOf dt 0 inb_S4x1024_S1x1024_0_0))
    (k1_pay24 (k1_pay18 (rowOf pt 1 inb_S4x1024_S1x1024_1_0)) (k1_pay20 (rowOf pt 3 inb_S4x1024_S1x1024_3_0)) (rowOf dt 1 inb_S4x1024_S1x1024_1_0))
    (k1_pay25 (k1_pay17 (rowOf pt 0 inb_S4x1024_S1x1024_0_0)) (k1_pay19 (rowOf pt 2 inb_S4x1024_S1x1024_2_0)) (rowOf dt 2 inb_S4x1024_S1x1024_2_0))
    (k1_pay26 (k1_pay18 (rowOf pt 1 inb_S4x1024_S1x1024_1_0)) (k1_pay20 (rowOf pt 3 inb_S4x1024_S1x1024_3_0)) (rowOf dt 3 inb_S4x1024_S1x1024_3_0))
    (k1_pay27 (k1_pay17 (rowOf pt 0 inb_S4x1024_S1x1024_0_0)) (k1_pay19 (rowOf pt 2 inb_S4x1024_S1x1024_2_0)) (rowOf dt 0 inb_S4x1024_S1x1024_0_0) (rowOf dt 2 inb_S4x1024_S1x1024_2_0))
    (k1_pay28 (k1_pay18 (rowOf pt 1 inb_S4x1024_S1x1024_1_0)) (k1_pay20 (rowOf pt 3 inb_S4x1024_S1x1024_3_0)) (rowOf dt 1 inb_S4x1024_S1x1024_1_0) (rowOf dt 3 inb_S4x1024_S1x1024_3_0))
    (FloatOps.ofBits .f32 0x00000000#32) (FloatOps.ofBits .f32 0x44000000#32)

/-- The row of overlap ratios the trip reads. -/
def iouRow (iou : FVec F S1024x1024 .f32) (k : Fin k1_t1_loop.trips) : Vec F S1x1024 .f32 :=
  View.ld iou (Rect.unit (s := S1024x1024) (k1_off1 k) S1x1024.size (k1_off1_inb k))

/-- The carried row before trip `k`. -/
def carried (iou : FVec F S1024x1024 .f32) : ℕ → FVec F S1x1024 .f32
  | 0 => k1_pay31
  | k + 1 => if h : k < k1_t1_loop.trips then k1_pay32 ⟨k, h⟩ (carried iou k) (iouRow iou ⟨k, h⟩) else carried iou k

/-- The block's result. -/
def blockOf (sc : Vec F S1024x1 .f32) (p : Vec F S1024x4 .f32) (pt : Vec F S4x1024 .f32) (d : Vec F S1024x4 .f32) (dt : Vec F S4x1024 .f32) :
    Vec F S100x5 .f32 :=
  k1_pay1 (colX1 p d) (colY1 p d) (colX2 p d) (colY2 p d) (carried (iouOf p pt d dt) k1_t1_loop.trips) k1_pay33 k1_pay36
    (k1_pay37 (carried (iouOf p pt d dt) k1_t1_loop.trips)) (k1_pay38 (carried (iouOf p pt d dt) k1_t1_loop.trips))
    (k1_pay39 (carried (iouOf p pt d dt) k1_t1_loop.trips)) sc

theorem zeros2 : (![0, 0] : Fin 2 → ℕ) = fun _ => 0 := funext fun a => by fin_cases a <;> rfl

/-- One trip over the stored overlap ratios. -/
theorem trip_eq (𝒱 : Variants) (c : Dev nD) (bd : Option 𝒱.V) (arg0 : Memref sig .tc .vmem S1024x1 .f32) (harg0 : arg0.IsWhole) (arg1 : Memref sig .tc .vmem S1024x4 .f32) (harg1 : arg1.IsWhole) (arg2 : Memref sig .tc .vmem S4x1024 .f32) (harg2 : arg2.IsWhole) (arg3 : Memref sig .tc .vmem S1024x4 .f32) (harg3 : arg3.IsWhole) (arg4 : Memref sig .tc .vmem S4x1024 .f32) (harg4 : arg4.IsWhole) (arg5 : Memref sig .tc .vmem S100x5 .f32) (harg5 : arg5.IsWhole) (arg6 : Memref sig .tc .vmem S1024x1024 .f32) (harg6 : arg6.IsWhole)
    (v167 : FVec F S1024x1024 .f32) (X : BufTy.Contents (Elt F) arg6.view.ty) (k : Fin k1_t1_loop.trips) (acc : FVec F S1x1024 .f32) :
    tripR_k1_t1 (F := F) 𝒱 c bd arg0 harg0 arg1 harg1 arg2 harg2 arg3 harg3 arg4 harg4 arg5 harg5 arg6 harg6 v167 X k acc
      = k1_pay32 k acc (iouRow (arg6.view.read (Elt F) X) k) := by
  unfold tripR_k1_t1 trip_k1_t1
  dsimp only
  sl_unfold_words
  rw [View.readAt_eq_ld]
  rfl

/-- The carried row is the recursion on the trips. -/
theorem st_eq (𝒱 : Variants) (c : Dev nD) (bd : Option 𝒱.V) (arg0 : Memref sig .tc .vmem S1024x1 .f32) (harg0 : arg0.IsWhole) (arg1 : Memref sig .tc .vmem S1024x4 .f32) (harg1 : arg1.IsWhole) (arg2 : Memref sig .tc .vmem S4x1024 .f32) (harg2 : arg2.IsWhole) (arg3 : Memref sig .tc .vmem S1024x4 .f32) (harg3 : arg3.IsWhole) (arg4 : Memref sig .tc .vmem S4x1024 .f32) (harg4 : arg4.IsWhole) (arg5 : Memref sig .tc .vmem S100x5 .f32) (harg5 : arg5.IsWhole) (arg6 : Memref sig .tc .vmem S1024x1024 .f32) (harg6 : arg6.IsWhole)
    (v167 : FVec F S1024x1024 .f32) (X : BufTy.Contents (Elt F) arg6.view.ty) (k : ℕ) :
    st_k1_t1 (F := F) 𝒱 c bd arg0 harg0 arg1 harg1 arg2 harg2 arg3 harg3 arg4 harg4 arg5 harg5 arg6 harg6 v167 X k1_pay31 k
      = carried (arg6.view.read (Elt F) X) k := by
  induction k with
  | zero => rfl
  | succ k ih =>
    rw [st_k1_t1.eq_2]
    unfold st_k1_t1Step carried
    by_cases h : k < k1_t1_loop.trips
    · rw [dif_pos h, dif_pos h, trip_eq, ih]
    · rw [dif_neg h, dif_neg h, ih]

/-- The overlap ratios stored to the scratch array, read back. -/
theorem scratch_read (v : View sig .tc .vmem S1024x1024 .f32) (f : v.ty.Contents (Elt F)) (w : FVec F S1024x1024 .f32) :
    v.read (Elt F) (v.writes (Elt F) f [⟨Rect.unit ![0, 0] S1024x1024.size inb_S1024x1024_S1024x1024_0_0, k1_pay30 w⟩]) = w := by
  refine (View.read_writes_eq_canon v f _ (View.cover_of_tiledL _ S1024x1024.size (by sl_kernel_rfl))).trans ?_
  refine (View.canon_unit_zero (S := S1024x1024) zeros2 _ _).trans ?_
  unfold k1_pay30
  exact shapeCast_self _ _

/-- What the run leaves in the result's staging buffer. -/
theorem out_eq (c : Dev nD) (arg0 : Memref sig .tc .vmem S1024x1 .f32) (harg0 : arg0.IsWhole) (arg1 : Memref sig .tc .vmem S1024x4 .f32) (harg1 : arg1.IsWhole) (arg2 : Memref sig .tc .vmem S4x1024 .f32) (harg2 : arg2.IsWhole) (arg3 : Memref sig .tc .vmem S1024x4 .f32) (harg3 : arg3.IsWhole) (arg4 : Memref sig .tc .vmem S4x1024 .f32) (harg4 : arg4.IsWhole) (arg5 : Memref sig .tc .vmem S100x5 .f32) (harg5 : arg5.IsWhole) (arg6 : Memref sig .tc .vmem S1024x1024 .f32) (harg6 : arg6.IsWhole)
    (x0 : Vec F S1024x1 .f32) (x1 : Vec F S1024x4 .f32) (x2 : Vec F S4x1024 .f32) (x3 : Vec F S1024x4 .f32) (x4 : Vec F S4x1024 .f32) :
    out1_A_5 c arg0 harg0 arg1 harg1 arg2 harg2 arg3 harg3 arg4 harg4 arg5 harg5 arg6 harg6 x0 x1 x2 x3 x4 = blockOf x0 x1 x2 x3 x4 := by
  unfold out1_A_5
  rw [View.read_writes_eq_canon _ _ _ (cover1_A_5 c arg0 harg0 arg1 harg1 arg2 harg2 arg3 harg3 arg4 harg4 arg5 harg5 arg6 harg6 x0 x1 x2 x3 x4)]
  unfold kernelRun1_A
  dsimp only
  sl_unfold_words
  refine (View.canon_unit_zero (S := S100x5) zeros2 _ _).trans ?_
  have hs : ∀ iou : FVec F S1024x1024 .f32, carried iou k1_t1_loop.trips
      = st_k1_t1 (F := F) Variants.none c none arg0 harg0 arg1 harg1 arg2 harg2 arg3 harg3 arg4 harg4 arg5 harg5 arg6 harg6 iou
        (arg6.view.writes (Elt F) arg6.view.junk [⟨Rect.unit ![0, 0] S1024x1024.size inb_S1024x1024_S1024x1024_0_0, k1_pay30 iou⟩])
        k1_pay31 k1_t1_loop.trips := fun iou => by rw [st_eq, scratch_read]
  have h0 := harg0.read_unread x0
  have h1 := harg1.read_unread x1
  have h2 := harg2.read_unread x2
  have h3 := harg3.read_unread x3
  have h4 := harg4.read_unread x4
  generalize harg0.unread x0 = f0 at h0 ⊢
  generalize harg1.unread x1 = f1 at h1 ⊢
  generalize harg2.unread x2 = f2 at h2 ⊢
  generalize harg3.unread x3 = f3 at h3 ⊢
  generalize harg4.unread x4 = f4 at h4 ⊢
  subst h0 h1 h2 h3 h4
  unfold blockOf
  rw [hs]
  rw [View.readAt_eq_ld arg0.view]
  refine (congrArg _ (View.ld_unit_zero (S := S1024x1) zeros2 _ _)).trans ?_
  rfl

end Cert.KernelIdeal.Hand

end
-- ==== Proof.KernelArray.lean ====
/- The arrays the two regions leave, as functions of what the regions find. -/
module

public import proofs.«01_k».proof.Proof.KernelBlock

@[expose] public section

set_option maxRecDepth 16384

noncomputable section

namespace Cert.KernelIdeal.Hand

open Idealize.ShloMosaic Idealize.ShloMosaic.TcCoe Idealize.ShloMosaic.Tactic
open Idealize.SL Idealize.SL.Sem
open Cert.KernelIdeal.Gen

variable {F : FTy → Type} [FloatOps F]

/-- Offsets of zero on one axis. -/
theorem zeros1 : (![0] : Fin 1 → Nat) = fun _ => 0 := funext fun a => by fin_cases a <;> rfl

/-- What the first region's body leaves in its result's buffer: the payload of the block it reads. -/
theorem out0_eq (x : Vec F S20000x80 .f32) : out0_1 x = k0_pay1 x := by
  unfold out0_1
  refine (View.canon_unit_zero (S := S20000) zeros1 _ _).trans ?_
  exact congrArg _ (View.ld_unit_zero (S := S20000x80) zeros2 _ _)

section
variable (V : (c : Dev nD) → (b : Ref sig .tc) → Buf (Elt F) ((c : Thread nD τ).loc b))

/-- The first region's one block of the scores is the whole array. -/
theorem iblk0_0_eq (c : Dev nD) (t : Fin cfg0.N) : iblk0 V c 0 t = V c main_arg2 := by
  have hz' : (fun a => win0_0.index t a * main_arg2.ty.shape.size a) = fun _ => 0 := funext fun a => Nat.zero_mul _
  exact Memref.read_access_unit_zero (Elt F) main_arg2 hz' (fun a => by rw [congrFun hz' a]; simp) (V c main_arg2)

theorem iblk1_0_eq (c : Dev nD) (t : Fin cfg1.N) : iblk1 V c 0 t = V c main_v18 := by
  have hz' : (fun a => win1_0.index t a * main_v18.ty.shape.size a) = fun _ => 0 := funext fun a => Nat.zero_mul _
  exact Memref.read_access_unit_zero (Elt F) main_v18 hz' (fun a => by rw [congrFun hz' a]; simp) (V c main_v18)
theorem iblk1_1_eq (c : Dev nD) (t : Fin cfg1.N) : iblk1 V c 1 t = V c main_v8 := by
  have hz' : (fun a => win1_1.index t a * main_v8.ty.shape.size a) = fun _ => 0 := funext fun a => Nat.zero_mul _
  exact Memref.read_access_unit_zero (Elt F) main_v8 hz' (fun a => by rw [congrFun hz' a]; simp) (V c main_v8)
theorem iblk1_2_eq (c : Dev nD) (t : Fin cfg1.N) : iblk1 V c 2 t = V c main_v19 := by
  have hz' : (fun a => win1_2.index t a * main_v19.ty.shape.size a) = fun _ => 0 := funext fun a => Nat.zero_mul _
  exact Memref.read_access_unit_zero (Elt F) main_v19 hz' (fun a => by rw [congrFun hz' a]; simp) (V c main_v19)
theorem iblk1_3_eq (c : Dev nD) (t : Fin cfg1.N) : iblk1 V c 3 t = V c main_v16 := by
  have hz' : (fun a => win1_3.index t a * main_v16.ty.shape.size a) = fun _ => 0 := funext fun a => Nat.zero_mul _
  exact Memref.read_access_unit_zero (Elt F) main_v16 hz' (fun a => by rw [congrFun hz' a]; simp) (V c main_v16)
theorem iblk1_4_eq (c : Dev nD) (t : Fin cfg1.N) : iblk1 V c 4 t = V c main_v20 := by
  have hz' : (fun a => win1_4.index t a * main_v20.ty.shape.size a) = fun _ => 0 := funext fun a => Nat.zero_mul _
  exact Memref.read_access_unit_zero (Elt F) main_v20 hz' (fun a => by rw [congrFun hz' a]; simp) (V c main_v20)

/-- The scores array the first region leaves. -/
abbrev scoreArr (c : Dev nD) : Buf (Elt F) ((c : Thread nD τ).loc main_v0) := k0_pay1 (V c main_arg2)

theorem flushed0 (c : Dev nD) (t : Fin cfg0.N) (_ : (cfg0.win 1).flush t = true) :
    (dat0 V c).flushed 1 t = ((cfg0.win 1).blk t).view.read (Elt F) (scoreArr V c) := by
  show (cfg0.win 1).cut (grid0.coords t) ((dat0 V c).after 1 t) = _
  rw [after0_1, out0_eq, iblk0_0_eq]
  have hz' : (fun a => win0_1.index t a * main_v0.ty.shape.size a) = fun _ => 0 := funext fun a => Nat.zero_mul _
  exact (Memref.read_access_unit_zero (Elt F) main_v0 hz' (fun a => by rw [congrFun hz' a]; simp) (scoreArr V c)).symm

theorem final0 (c : Dev nD) : (dat0 V c).arrAt 1 cfg0.N = scoreArr V c :=
  (dat0 V c).arrAt_eq_of_cover 1 (scoreArr V c) (flushed0 V c) fun i =>
    ⟨t0_0, flush0_1 t0_0, by
      show i ∈ ((View.whole main_v0).slice (win0_1.rect t0_0)).set
      rw [View.set_slice_whole, Rect.mem_set_unit]
      intro a
      have h0 : (i 0 : Nat) < 20000 := (i 0).isLt
      match a with
      | ⟨0, _⟩ => show win0_1.index t0_0 0 * win0_1.size 0 ≤ (i 0 : Nat) ∧ (i 0 : Nat) < win0_1.index t0_0 0 * win0_1.size 0 + win0_1.xsize (grid0.coords t0_0) 0
                  rw [show win0_1.index t0_0 0 * win0_1.size 0 = 0 from by decide +kernel, show win0_1.xsize (grid0.coords t0_0) 0 = 20000 from by decide +kernel]; omega⟩

/-- The result array the second region leaves. -/
abbrev resultArr (c : Dev nD) : Buf (Elt F) ((c : Thread nD τ).loc main_v21) :=
  blockOf (V c main_v18) (V c main_v8) (V c main_v19) (V c main_v16) (V c main_v20)

theorem flushed1 (c : Dev nD) (t : Fin cfg1.N) (_ : (cfg1.win 5).flush t = true) :
    (dat1 V c).flushed 5 t = ((cfg1.win 5).blk t).view.read (Elt F) (resultArr V c) := by
  show (cfg1.win 5).cut (grid1.coords t) ((dat1 V c).after 5 t) = _
  rw [after1_5]
  unfold outsAt1
  rw [out_eq, iblk1_0_eq, iblk1_1_eq, iblk1_2_eq, iblk1_3_eq, iblk1_4_eq]
  have hz' : (fun a => win1_5.index t a * main_v21.ty.shape.size a) = fun _ => 0 := funext fun a => Nat.zero_mul _
  exact (Memref.read_access_unit_zero (Elt F) main_v21 hz' (fun a => by rw [congrFun hz' a]; simp) (resultArr V c)).symm

theorem final1 (c : Dev nD) : (dat1 V c).arrAt 5 cfg1.N = resultArr V c :=
  (dat1 V c).arrAt_eq_of_cover 5 (resultArr V c) (flushed1 V c) fun i =>
    ⟨t1_0, flush1_5 t1_0, by
      show i ∈ ((View.whole main_v21).slice (win1_5.rect t1_0)).set
      rw [View.set_slice_whole, Rect.mem_set_unit]
      intro a
      have h0 : (i 0 : Nat) < 100 := (i 0).isLt
      have h1 : (i 1 : Nat) < 5 := (i 1).isLt
      match a with
      | ⟨0, _⟩ => show win1_5.index t1_0 0 * win1_5.size 0 ≤ (i 0 : Nat) ∧ (i 0 : Nat) < win1_5.index t1_0 0 * win1_5.size 0 + win1_5.xsize (grid1.coords t1_0) 0
                  rw [show win1_5.index t1_0 0 * win1_5.size 0 = 0 from by decide +kernel, show win1_5.xsize (grid1.coords t1_0) 0 = 100 from by decide +kernel]; omega
      | ⟨1, _⟩ => show win1_5.index t1_0 1 * win1_5.size 1 ≤ (i 1 : Nat) ∧ (i 1 : Nat) < win1_5.index t1_0 1 * win1_5.size 1 + win1_5.xsize (grid1.coords t1_0) 1
                  rw [show win1_5.index t1_0 1 * win1_5.size 1 = 0 from by decide +kernel, show win1_5.xsize (grid1.coords t1_0) 1 = 5 from by decide +kernel]; omega⟩
end

variable (m : (ℓ : Loc nD τ sig) → Buf (Elt F) ℓ) (ρ : Dev nD → PrngReg)

/-- The scores array after the first region, from the argument. -/
theorem W1_scores (c : Dev nD) : W1 m ρ c (Proc.devRef .tc main_v0) = k0_pay1 (m ((c : Thread nD τ).loc main_arg2)) :=
  (W1_arr m ρ c 1).trans (final0 (V0 m ρ) c)

/-- The result array after the second region, from what the region finds. -/
theorem W9_result (c : Dev nD) : W9 m ρ c (Proc.devRef .tc main_v21)
    = blockOf (W8 m ρ c (Proc.devRef .tc main_v18)) (W8 m ρ c (Proc.devRef .tc main_v8)) (W8 m ρ c (Proc.devRef .tc main_v19))
        (W8 m ρ c (Proc.devRef .tc main_v16)) (W8 m ρ c (Proc.devRef .tc main_v20)) :=
  (W9_arr m ρ c 5).trans (final1 (V8 m ρ) c)

end Cert.KernelIdeal.Hand

end
-- ==== Proof.Order.lean ====
/- Order facts: the ranks a selection state gives to the boxes, and the sort of the kept scores. -/
module

public import Idealize.ShloMosaic.Lib.SortPrefix
public import Idealize.ShloMosaic.Lib.SortFacts
public import Mathlib.Data.Fintype.Card
public import Mathlib.Order.Interval.Finset.Fin

@[expose] public section

namespace Cert.Nms

open Idealize.ShloMosaic

variable {n : ℕ}

/-- One visit: when box `i` stands, every later box that overlaps it is struck. -/
def step (o : Fin n → Fin n → Bool) (i : Fin n) (s : Fin n → Bool) : Fin n → Bool :=
  fun j => if s i then s j else s j || (o i j && decide (i < j))

/-- The struck boxes after the first `k` visits. -/
def struck (o : Fin n → Fin n → Bool) : ℕ → Fin n → Bool
  | 0 => fun _ => false
  | k + 1 => if h : k < n then step o ⟨k, h⟩ (struck o k) else struck o k

/-- The output order under the state `s`: the standing boxes first, then the struck ones, each by position. -/
def before (s : Fin n → Bool) (i j : Fin n) : Bool :=
  (!s i && (s j || decide (i < j))) || (s i && s j && decide (i < j))

theorem before_strict (s : Fin n → Bool) : StrictTotalBefore (before s) where
  irrefl a := by cases h : s a <;> simp [before, h]
  trans a b c hab hbc := by
    cases ha : s a <;> cases hb : s b <;> cases hc : s c <;> simp [before, ha, hb, hc] at hab hbc ⊢ <;> exact lt_trans hab hbc
  total a b hne := by
    have h := lt_or_gt_of_ne hne
    cases ha : s a <;> cases hb : s b <;> simp [before, ha, hb, h]
    all_goals exact h

/-- The rank of a box: how many boxes come before it. -/
def rank (s : Fin n → Bool) (j : Fin n) : ℕ := (Finset.univ.filter fun i => before s i j = true).card

/-- A standing box's rank counts the standing boxes at lower positions. -/
theorem rank_standing (s : Fin n → Bool) (j : Fin n) (h : s j = false) :
    rank s j = (Finset.univ.filter fun i => s i = false ∧ i < j).card := by
  unfold rank
  congr 1
  ext i
  cases hi : s i <;> simp [before, h, hi]

/-- A struck box's rank counts all the standing boxes and the struck ones at lower positions. -/
theorem rank_struck (s : Fin n → Bool) (j : Fin n) (h : s j = true) :
    rank s j = (Finset.univ.filter fun i => s i = false).card + (Finset.univ.filter fun i => s i = true ∧ i < j).card := by
  unfold rank
  rw [← Finset.card_union_of_disjoint]
  · congr 1
    ext i
    cases hi : s i <;> simp [before, h, hi]
  · rw [Finset.disjoint_left]
    intro i hi hi'
    simp at hi hi'
    rw [hi] at hi'
    exact absurd hi'.1 (by decide)

/-- Under a strict total order the `k`-th sorted element has `k` elements before it. -/
theorem card_before_sortedFrom {B : Fin n → Fin n → Bool} (hB : StrictTotalBefore B) (k : Fin n) :
    (Finset.univ.filter fun i => B i (sortedFrom B k) = true).card = k.val := by
  have hlt : ∀ i j : Fin n, i < j → B (sortedFrom B i) (sortedFrom B j) = true := fun i j hij => by
    have h := sortedFrom_noInversion B B (fun a b h => hB.asymm a b h) (fun _ _ h => h) hB.negTrans i j hij
    rcases hB.total _ _ (fun e => hij.ne (sortedFrom_injective B e)) with h' | h'
    · exact h'
    · rw [h] at h'; exact absurd h' (by decide)
  have hiff : ∀ i, B (sortedFrom B i) (sortedFrom B k) = true ↔ i < k := fun i => by
    constructor
    · intro h
      rcases lt_trichotomy i k with h' | h' | h'
      · exact h'
      · subst h'; rw [hB.irrefl] at h; exact absurd h (by decide)
      · rw [hB.asymm _ _ (hlt _ _ h')] at h; exact absurd h (by decide)
    · exact hlt i k
  have himg : (Finset.univ.filter fun i => B i (sortedFrom B k) = true) = (Finset.Iio k).image (sortedFrom B) := by
    ext i
    obtain ⟨i', rfl⟩ := sortedFrom_surjective B i
    simp only [Finset.mem_filter, Finset.mem_univ, true_and, hiff, Finset.mem_image, Finset.mem_Iio]
    exact ⟨fun h => ⟨i', h, rfl⟩, fun ⟨a, ha, e⟩ => by rw [← sortedFrom_injective B e]; exact ha⟩
  rw [himg, Finset.card_image_of_injective _ (sortedFrom_injective B), Fin.card_Iio]

/-- A box has rank `k` exactly when it is the `k`-th sorted one. -/
theorem rank_eq_iff (s : Fin n → Bool) (k j : Fin n) : rank s j = k.val ↔ j = sortedFrom (before s) k := by
  obtain ⟨k', rfl⟩ := sortedFrom_surjective (before s) j
  have h : rank s (sortedFrom (before s) k') = k'.val := card_before_sortedFrom (before_strict s) k'
  rw [h]
  exact ⟨fun e => by rw [Fin.ext e], fun e => by rw [sortedFrom_injective _ e]⟩

/-- Two comparators that agree on every pair taken in list order sort the list alike. -/
theorem stableSort_congr {ι : Type} (R R' : ι → ι → Bool) (l : List ι) (h : l.Pairwise fun a b => R b a = R' b a) :
    stableSort R l = stableSort R' l := by
  induction l with
  | nil => rfl
  | cons a l ih =>
    obtain ⟨h₁, h₂⟩ := List.pairwise_cons.mp h
    show insertBefore R a (stableSort R l) = insertBefore R' a (stableSort R' l)
    rw [ih h₂]
    exact insertBefore_congr R R' a _ fun b hb => h₁ b ((perm_stableSort R' l).mem_iff.mp hb)

theorem sortedFrom_congr {R R' : Fin n → Fin n → Bool} (h : ∀ a b, a < b → R b a = R' b a) : sortedFrom R = sortedFrom R' := by
  have e : sortPositions n R = sortPositions n R' :=
    stableSort_congr R R' _ ((List.pairwise_lt_finRange n).imp fun {a b} hab => h a b hab)
  funext k
  simp only [sortedFrom, List.get_eq_getElem, e]
  rfl

/-- Sorting by descending score, the struck boxes at a score below all others, is sorting by `before`. -/
theorem sortedFrom_scores {κ : Type} [LinearOrder κ] (s : Fin n → Bool) (v : Fin n → κ) (low : κ) (hlow : ∀ j, low < v j)
    (hv : ∀ i j, i < j → v j ≤ v i) :
    sortedFrom (fun i j => decide ((if s j then low else v j) < (if s i then low else v i))) = sortedFrom (before s) := by
  refine sortedFrom_congr fun a b hab => ?_
  cases ha : s a <;> cases hb : s b <;> simp [before, ha, hb, hab.not_gt, hlow, (hlow _).le, (hv a b hab), hab.le]

end Cert.Nms
-- ==== Proof.TopRows.lean ====
/- The greatest entries of a list and the rows they name: the sort by descending score, and a row gather through its positions. -/
module

public import proofs.«01_k».proof.Proof.Order
public import Idealize.ShloMosaic.PureOps.Ideal
public import Idealize.ShloMosaic.Lib.Routing.Ops
public import Idealize.ShloMosaic.Lib.Routing.OpsPair
public import Idealize.ShloMosaic.Lib.Pipeline.Value
public import Idealize.ShloMosaic.Lib.Pointwise.Tactic
public import Idealize.ShloMosaic.Lib.IdealHost

@[expose] public section

set_option maxRecDepth 16384

noncomputable section

namespace Cert.Nms

open Idealize.ShloMosaic Idealize.ShloMosaic.Tactic

variable {n k : ℕ}

/-- The positions of a list of scores, by descending score, equal scores by position. -/
def byScore (v : Fin n → EReal) : Fin n → Fin n := sortedFrom fun i j => decide (v j < v i)

theorem byScore_desc (v : Fin n → EReal) (i j : Fin n) (h : i < j) : v (byScore v j) ≤ v (byScore v i) := by
  have := sortedFrom_noInversion (fun i j => decide (v j < v i)) (fun i j => decide (v j < v i))
    (fun a b hab => decide_eq_false (not_lt.2 (of_decide_eq_true hab).le)) (fun a b h => h)
    (fun a b c hab hbc => decide_eq_false (not_lt.2 ((not_lt.1 (of_decide_eq_false hab)).trans (not_lt.1 (of_decide_eq_false hbc))))) i j h
  exact not_lt.1 (of_decide_eq_false this)

/-- The comparator of the sort is the strict order of the scores. -/
theorem gt_eq (x y : EReal) : (FloatOps.cmpfTotal (F := Ideal) (φ := .f32) .gt x y == 1#1) = decide (y < x) := by
  show (BitVec.ofBool (decide (y < x)) == 1#1) = _
  cases h : decide (y < x) <;> rfl

/-- A sort of a list of scores with its companion words, read at place `r`. -/
theorem sort2_read (x : FVec Ideal ⟨1, ![n]⟩ .f32) (y : IVec ⟨1, ![n]⟩ 32) (r : Fin n) :
    (Host.sort2 ⟨1, ![n]⟩ 0 (fun l r : EReal × BitVec 32 => FloatOps.cmpfTotal (F := Ideal) (φ := .f32) .gt l.1 r.1) x y).1 (ix1 r)
        = x (ix1 (byScore (fun a => x (ix1 a)) r))
      ∧ (Host.sort2 ⟨1, ![n]⟩ 0 (fun l r : EReal × BitVec 32 => FloatOps.cmpfTotal (F := Ideal) (φ := .f32) .gt l.1 r.1) x y).2 (ix1 r)
        = y (ix1 (byScore (fun a => x (ix1 a)) r)) := by
  have hd : 0 < (⟨1, ![n]⟩ : Shape).rank := Nat.zero_lt_one
  have e : ∀ (i : (⟨1, ![n]⟩ : Shape).Idx) (c : Fin n), i.along (⟨0, hd⟩ : Fin (⟨1, ![n]⟩ : Shape).rank) c = ix1 c := fun i c =>
    (Shape.Idx.along_rank1 i c).trans (Routing.ofFin_eq_ix1 c)
  have hb : ∀ i : (⟨1, ![n]⟩ : Shape).Idx,
      (fun a b : Fin n => FloatOps.cmpfTotal (F := Ideal) (φ := .f32) .gt (x (i.along ⟨0, hd⟩ a)) (x (i.along ⟨0, hd⟩ b)) == 1#1)
        = fun a b => decide (x (ix1 b) < x (ix1 a)) := fun i => by
    funext a b
    rw [e i a, e i b]
    exact gt_eq _ _
  have hs : sortedFrom (n := n) (fun a b : Fin n =>
      FloatOps.cmpfTotal (F := Ideal) (φ := .f32) .gt (x ((ix1 r).along ⟨0, hd⟩ a)) (x ((ix1 r).along ⟨0, hd⟩ b)) == 1#1) r
        = byScore (fun a => x (ix1 a)) r := by
    rw [hb (ix1 r)]
    rfl
  unfold Host.sort2
  rw [dif_pos hd]
  exact ⟨(congrArg (fun c : Fin n => x ((ix1 r).along ⟨0, hd⟩ c)) hs).trans (congrArg x (e _ _)),
    (congrArg (fun c : Fin n => y ((ix1 r).along ⟨0, hd⟩ c)) hs).trans (congrArg y (e _ _))⟩

/-- The position words of a list. -/
def positions (n : ℕ) : IVec ⟨1, ![n]⟩ 32 := fun i => if hd : 0 < (⟨1, ![n]⟩ : Shape).rank then iotaInDim ⟨1, ![n]⟩ 32 ⟨0, hd⟩ i else 0#32

section
variable (x : FVec Ideal ⟨1, ![n]⟩ .f32) (h : (⟨1, ![n]⟩ : Shape).Slices (fun _ => 0) ⟨1, ![k]⟩) (hk : k ≤ n) (j : Fin k)

/-- The greatest entries, in order. -/
theorem topK_val : (Host.topK ⟨1, ![k]⟩ 0 (FloatOps.cmpfTotal (F := Ideal) (φ := .f32) .gt) x h).1 (ix1 j)
    = x (ix1 (byScore (fun a => x (ix1 a)) (Fin.castLE hk j))) := by
  refine (extractStridedSlice_apply (fun _ => 0) (Host.sort2 ⟨1, ![n]⟩ 0 (fun l r : EReal × BitVec 32 =>
    FloatOps.cmpfTotal (F := Ideal) (φ := .f32) .gt l.1 r.1) x (positions n)).1 h (ix1 j) (ix1 (Fin.castLE hk j)) fun a => ?_).trans
    (sort2_read x (positions n) _).1
  match a with
  | ⟨0, _⟩ => exact (Nat.zero_add _).symm

/-- The positions of the greatest entries, as words. -/
theorem topK_idx : (Host.topK ⟨1, ![k]⟩ 0 (FloatOps.cmpfTotal (F := Ideal) (φ := .f32) .gt) x h).2 (ix1 j)
    = BitVec.ofNat 32 (byScore (fun a => x (ix1 a)) (Fin.castLE hk j)).val := by
  refine (extractStridedSlice_apply (fun _ => 0) (Host.sort2 ⟨1, ![n]⟩ 0 (fun l r : EReal × BitVec 32 =>
    FloatOps.cmpfTotal (F := Ideal) (φ := .f32) .gt l.1 r.1) x (positions n)).2 h (ix1 j) (ix1 (Fin.castLE hk j)) fun a => ?_).trans
    ((sort2_read x (positions n) _).2.trans ?_)
  · match a with
    | ⟨0, _⟩ => exact (Nat.zero_add _).symm
  · exact dif_pos Nat.zero_lt_one
end

/-- The position words, negative ones moved up by `hi`, as one column: a word that is a small number stays as it is. -/
theorem wrapped_apply (w : IVec ⟨1, ![k]⟩ 32) (hi : BitVec 32) (b0 b1 : (⟨0, ![]⟩ : Shape).BroadcastsInDim ⟨1, ![k]⟩ ![])
    (b2 : (⟨1, ![k]⟩ : Shape).BroadcastsInDim ⟨2, ![k, 1]⟩ ![0]) (j : Fin k) (p : ℕ) (hp : p < 2 ^ 31)
    (hw : w (ix1 j) = BitVec.ofNat 32 p) :
    broadcastInDim ⟨2, ![k, 1]⟩ ![0] b2 (select (cmpi .slt w (broadcastInDim ⟨1, ![k]⟩ ![] b0 (constantI ⟨0, ![]⟩ 32 0#32)))
      (addi w (broadcastInDim ⟨1, ![k]⟩ ![] b1 (constantI ⟨0, ![]⟩ 32 hi))) w) (ix2 j (0 : Fin 1)) = BitVec.ofNat 32 p := by
  refine (Routing.bcCol b2 _ j).trans ?_
  show Scalar.select (IntOp.cmpi .slt (w (ix1 j)) 0#32) (w (ix1 j) + hi) (w (ix1 j)) = _
  rw [hw]
  exact Routing.wrap_of_lt _ _ (by rw [BitVec.toNat_ofNat]; exact lt_of_le_of_lt (Nat.mod_le _ _) hp)

/-- Row `i` of an array. -/
def rowAt {N B : ℕ} (x : FVec Ideal ⟨2, ![N, B]⟩ .f32) (i : Fin N) (q : Fin B) : EReal := x (ix2 i q)

/-- A row gather through the wrapped positions of the greatest scores. -/
theorem gather_top {N B : ℕ} (v : FVec Ideal ⟨1, ![N]⟩ .f32) (h : (⟨1, ![N]⟩ : Shape).Slices (fun _ => 0) ⟨1, ![k]⟩) (hk : k ≤ N)
    (hN : N < 2 ^ 31) (hi : BitVec 32) (b0 b1 : (⟨0, ![]⟩ : Shape).BroadcastsInDim ⟨1, ![k]⟩ ![])
    (b2 : (⟨1, ![k]⟩ : Shape).BroadcastsInDim ⟨2, ![k, 1]⟩ ![0]) (d : GatherDims ⟨2, ![N, B]⟩ ⟨2, ![k, 1]⟩ ⟨2, ![k, B]⟩)
    (hoff : d.offsetDims = [1]) (hcoll : d.collapsedSliceDims = [0]) (hob : d.operandBatchingDims = [])
    (hsim : d.startIndexMap = [0]) (hivd : d.indexVectorDim = 1) (x : FVec Ideal ⟨2, ![N, B]⟩ .f32) (w : IVec ⟨1, ![k]⟩ 32)
    (hw : w = (Host.topK ⟨1, ![k]⟩ 0 (FloatOps.cmpfTotal (F := Ideal) (φ := .f32) .gt) v h).2) (j : Fin k) (q : Fin B) :
    Host.gather d x (broadcastInDim ⟨2, ![k, 1]⟩ ![0] b2 (select (cmpi .slt w (broadcastInDim ⟨1, ![k]⟩ ![] b0 (constantI ⟨0, ![]⟩ 32 0#32)))
      (addi w (broadcastInDim ⟨1, ![k]⟩ ![] b1 (constantI ⟨0, ![]⟩ 32 hi))) w)) (ix2 j q)
      = rowAt x (byScore (fun a => v (ix1 a)) (Fin.castLE hk j)) q := by
  refine Routing.gather_row d hoff hcoll hob hsim hivd x _ j q _ (wrapped_apply w hi b0 b1 b2 j _ ?_ ?_) hN
  · exact lt_trans (Fin.isLt _) hN
  · rw [hw, topK_idx v h hk j]

end Cert.Nms

end
-- ==== Proof.Spec.lean ====
/- The detection head in plain arithmetic: one decoded edge, one overlap ratio, and the words of its constants. -/
module

public import Idealize.ShloMosaic.PureOps.Ideal

@[expose] public section

noncomputable section

namespace Cert.Nms

open Idealize.ShloMosaic

/-- One half. -/
abbrev half : EReal := Ideal.ofBits .f32 0x3F000000#32

/-- The decoded centre on one axis, from the proposal's two edges and its offset. -/
def centre (a b d : EReal) : EReal := (a + b) * half + (b - a) * d

/-- The decoded extent on one axis, from the proposal's two edges and its scale. -/
def extent (a b e : EReal) : EReal :=
  (b - a) * Ideal.exp (min (Ideal.ofBits .f32 0x40800000#32) (max (Ideal.ofBits .f32 0xC0800000#32) e))

/-- A coordinate clipped to the picture. -/
def clip (x : EReal) : EReal := min (Ideal.ofBits .f32 0x44000000#32) (max (Ideal.ofBits .f32 0x00000000#32) x)

/-- The decoded lower edge. -/
def lowEdge (a b d e : EReal) : EReal := clip (centre a b d - extent a b e * half)
/-- The decoded upper edge. -/
def highEdge (a b d e : EReal) : EReal := clip (centre a b d + extent a b e * half)

/-- The decoded edge number `k` of a proposal `p` with regression `d`: left, top, right, bottom. -/
def edge (p d : Fin 4 → EReal) : Fin 4 → EReal
  | 0 => lowEdge (p 0) (p 2) (d 0) (d 2)
  | 1 => lowEdge (p 1) (p 3) (d 1) (d 3)
  | 2 => highEdge (p 0) (p 2) (d 0) (d 2)
  | 3 => highEdge (p 1) (p 3) (d 1) (d 3)

/-- The common area of two boxes. -/
def common (a b : Fin 4 → EReal) : EReal :=
  max (Ideal.ofBits .f32 0x00000000#32) (min (a 2) (b 2) - max (a 0) (b 0))
    * max (Ideal.ofBits .f32 0x00000000#32) (min (a 3) (b 3) - max (a 1) (b 1))

/-- The area of one box. -/
def area (a : Fin 4 → EReal) : EReal := (a 2 - a 0) * (a 3 - a 1)

/-- The overlap ratio of two boxes. -/
def overlap (a b : Fin 4 → EReal) : EReal :=
  Ideal.div (common a b) (area a + area b - common a b + Ideal.ofBits .f32 0x358637BD#32)

end Cert.Nms

end
-- ==== Proof.KernelBoxes.lean ====
/- The second region's decoded boxes and overlap ratios, entry by entry. -/
module

public import proofs.«01_k».proof.Proof.KernelBlock
public import proofs.«01_k».proof.Proof.Spec
public import Idealize.ShloMosaic.Lib.Pointwise.Tactic
public import Idealize.ShloMosaic.Lib.ValueLayout

@[expose] public section

set_option maxRecDepth 16384

noncomputable section

namespace Cert.KernelIdeal.Hand

open Idealize.ShloMosaic Idealize.ShloMosaic.TcCoe Idealize.ShloMosaic.Tactic
open Cert.KernelIdeal.Gen Cert.Nms

variable (p d : Vec Ideal S1024x4 .f32) (pt dt : Vec Ideal S4x1024 .f32)

/-- The row `r` of a block of 1024 rows. -/
def rowFn (x : Vec Ideal S1024x4 .f32) (r : Fin 1024) : Fin 4 → EReal := fun k => x (ix2 r k)
/-- The column `r` of a block of 1024 columns. -/
def colFn (x : Vec Ideal S4x1024 .f32) (r : Fin 1024) : Fin 4 → EReal := fun k => x (ix2 k r)

/-- Column `k` of a block, entry by entry. -/
theorem colOf_apply (x : Vec Ideal S1024x4 .f32) (k : Fin 4) (h) (r : Fin 1024) (z : Fin 1) :
    colOf x k.val h (ix2 r z) = rowFn x r k := by
  unfold colOf rowFn View.ld
  refine congrArg x ?_
  funext a
  match a with
  | ⟨0, _⟩ => exact Fin.ext (by simp [Rect.unit, Rect.emb])
  | ⟨1, _⟩ => exact Fin.ext (by simp [Rect.unit, Rect.emb])

/-- Row `k` of a block, entry by entry. -/
theorem rowOf_apply (x : Vec Ideal S4x1024 .f32) (k : Fin 4) (h) (r : Fin 1024) (z : Fin 1) :
    rowOf x k.val h (ix2 z r) = colFn x r k := by
  unfold rowOf colFn View.ld
  refine congrArg x ?_
  funext a
  match a with
  | ⟨0, _⟩ => exact Fin.ext (by simp [Rect.unit, Rect.emb])
  | ⟨1, _⟩ => exact Fin.ext (by simp [Rect.unit, Rect.emb])

/-- The decoded left edge of row `r`. -/
theorem colX1_apply (r : Fin 1024) (z : Fin 1) : colX1 p d (ix2 r z) = edge (rowFn p r) (rowFn d r) 0 := by
  unfold colX1
  simp only [k1_pay13, k1_pay9, k1_pay11, k1_pay6, k1_pay2, k1_pay4, shapeCast_self]
  have h0 := colOf_apply p 0 inb_S1024x4_S1024x1_0_0 r z
  have h2 := colOf_apply p 2 inb_S1024x4_S1024x1_0_2 r z
  have e0 := colOf_apply d 0 inb_S1024x4_S1024x1_0_0 r z
  have e2 := colOf_apply d 2 inb_S1024x4_S1024x1_0_2 r z
  unfold edge lowEdge
  rw [← h0, ← h2, ← e0, ← e2]
  rfl

/-- The decoded top edge of row `r`. -/
theorem colY1_apply (r : Fin 1024) (z : Fin 1) : colY1 p d (ix2 r z) = edge (rowFn p r) (rowFn d r) 1 := by
  unfold colY1
  simp only [k1_pay14, k1_pay12, k1_pay7, k1_pay8, k1_pay10, k1_pay3, k1_pay5, shapeCast_self]
  have h0 := colOf_apply p 1 inb_S1024x4_S1024x1_0_1 r z
  have h2 := colOf_apply p 3 inb_S1024x4_S1024x1_0_3 r z
  have e0 := colOf_apply d 1 inb_S1024x4_S1024x1_0_1 r z
  have e2 := colOf_apply d 3 inb_S1024x4_S1024x1_0_3 r z
  unfold edge lowEdge
  rw [← h0, ← h2, ← e0, ← e2]
  rfl

/-- The decoded right edge of row `r`. -/
theorem colX2_apply (r : Fin 1024) (z : Fin 1) : colX2 p d (ix2 r z) = edge (rowFn p r) (rowFn d r) 2 := by
  unfold colX2
  simp only [k1_pay15, k1_pay9, k1_pay11, k1_pay6, k1_pay2, k1_pay4, shapeCast_self]
  have h0 := colOf_apply p 0 inb_S1024x4_S1024x1_0_0 r z
  have h2 := colOf_apply p 2 inb_S1024x4_S1024x1_0_2 r z
  have e0 := colOf_apply d 0 inb_S1024x4_S1024x1_0_0 r z
  have e2 := colOf_apply d 2 inb_S1024x4_S1024x1_0_2 r z
  unfold edge highEdge
  rw [← h0, ← h2, ← e0, ← e2]
  rfl

/-- The decoded bottom edge of row `r`. -/
theorem colY2_apply (r : Fin 1024) (z : Fin 1) : colY2 p d (ix2 r z) = edge (rowFn p r) (rowFn d r) 3 := by
  unfold colY2
  simp only [k1_pay16, k1_pay12, k1_pay7, k1_pay8, k1_pay10, k1_pay3, k1_pay5, shapeCast_self]
  have h0 := colOf_apply p 1 inb_S1024x4_S1024x1_0_1 r z
  have h2 := colOf_apply p 3 inb_S1024x4_S1024x1_0_3 r z
  have e0 := colOf_apply d 1 inb_S1024x4_S1024x1_0_1 r z
  have e2 := colOf_apply d 3 inb_S1024x4_S1024x1_0_3 r z
  unfold edge highEdge
  rw [← h0, ← h2, ← e0, ← e2]
  rfl

/-- A column spread over 1024 columns reads the column. -/
theorem spreadCol_apply (v : FVec Ideal S1024x1 .f32) (i j : Fin 1024) :
    broadcastTo S1024x1024 v broadcasts_S1024x1_S1024x1024 (ix2 i j) = v (ix2 i (0 : Fin 1)) := by
  refine broadcastTo_apply v broadcasts_S1024x1_S1024x1024 (ix2 i j) (ix2 i (0 : Fin 1)) fun ax => ?_
  match ax with
  | ⟨0, _⟩ => rfl
  | ⟨1, _⟩ => rfl

/-- A row spread over 1024 rows reads the row. -/
theorem spreadRow_apply (v : FVec Ideal S1x1024 .f32) (i j : Fin 1024) :
    broadcastTo S1024x1024 v broadcasts_S1x1024_S1024x1024 (ix2 i j) = v (ix2 (0 : Fin 1) j) := by
  refine broadcastTo_apply v broadcasts_S1x1024_S1024x1024 (ix2 i j) (ix2 (0 : Fin 1) j) fun ax => ?_
  match ax with
  | ⟨0, _⟩ => rfl
  | ⟨1, _⟩ => rfl

/-- The overlap ratio of rows `i` and `j`, the second read from the transposed blocks. -/
theorem iouOf_apply (i j : Fin 1024) :
    iouOf p pt d dt (ix2 i j) = overlap (edge (rowFn p i) (rowFn d i)) (edge (colFn pt j) (colFn dt j)) := by
  have a0 := colX1_apply p d i 0
  have a1 := colY1_apply p d i 0
  have a2 := colX2_apply p d i 0
  have a3 := colY2_apply p d i 0
  unfold iouOf
  generalize colX1 p d = x1 at a0 ⊢
  generalize colY1 p d = y1 at a1 ⊢
  generalize colX2 p d = x2 at a2 ⊢
  generalize colY2 p d = y2 at a3 ⊢
  simp only [k1_pay29, k1_pay28, k1_pay27, k1_pay26, k1_pay25, k1_pay24, k1_pay23, k1_pay22, k1_pay21, k1_pay20, k1_pay19, k1_pay18,
    k1_pay17, shapeCast_self]
  have p0 := rowOf_apply pt 0 inb_S4x1024_S1x1024_0_0 j 0
  have p1 := rowOf_apply pt 1 inb_S4x1024_S1x1024_1_0 j 0
  have p2 := rowOf_apply pt 2 inb_S4x1024_S1x1024_2_0 j 0
  have p3 := rowOf_apply pt 3 inb_S4x1024_S1x1024_3_0 j 0
  have d0 := rowOf_apply dt 0 inb_S4x1024_S1x1024_0_0 j 0
  have d1 := rowOf_apply dt 1 inb_S4x1024_S1x1024_1_0 j 0
  have d2 := rowOf_apply dt 2 inb_S4x1024_S1x1024_2_0 j 0
  have d3 := rowOf_apply dt 3 inb_S4x1024_S1x1024_3_0 j 0
  unfold overlap area common
  rw [← a0, ← a1, ← a2, ← a3]
  simp only [edge]
  unfold lowEdge highEdge
  rw [← p0, ← p1, ← p2, ← p3, ← d0, ← d1, ← d2, ← d3]
  simp only [divf_apply, mulf_apply, addf_apply, subf_apply, maximumf_apply, minimumf_apply, spreadCol_apply, spreadRow_apply]
  rfl

end Cert.KernelIdeal.Hand

end
-- ==== Proof.KernelLoop.lean ====
/- The row of marks the second region carries through its trips: the struck boxes of the greedy pass. -/
module

public import proofs.«01_k».proof.Proof.KernelBoxes
public import proofs.«01_k».proof.Proof.Order
public import Idealize.ShloMosaic.Lib.WordCmp
public import Idealize.ShloMosaic.Lib.Pointwise.Reduce

@[expose] public section

set_option maxRecDepth 16384

noncomputable section

namespace Cert.KernelIdeal.Hand

open Idealize.ShloMosaic Idealize.ShloMosaic.TcCoe Idealize.ShloMosaic.Tactic
open Idealize.ShloMosaic.WordCmp
open Cert.KernelIdeal.Gen Cert.Nms

/-- The loop makes a trip for every box. -/
theorem trips_eq : k1_t1_loop.trips = 1000 := by decide +kernel

/-- A box's place among the padded rows. -/
def up (j : Fin 1000) : Fin 1024 := Fin.castLE (by decide) j

/-- A bit as a number. -/
def bit (b : Bool) : EReal := if b then 1 else 0

theorem bit_pos (b : Bool) : 0 < bit b ↔ b = true := by
  cases b <;> simp [bit]

theorem select_ofBool {α : Type} (p : Prop) [Decidable p] (x y : α) :
    Scalar.select (BitVec.ofBool (decide p)) x y = if p then x else y := by
  by_cases h : p <;> simp [Scalar.select, h]

theorem andi_ofBool (a b : Bool) : IntOp.andi (BitVec.ofBool a) (BitVec.ofBool b) = BitVec.ofBool (a && b) := by
  cases a <;> cases b <;> rfl

theorem xori_ofBool (a : Bool) : IntOp.xori (BitVec.ofBool a) 1#1 = BitVec.ofBool (!a) := by
  cases a <;> rfl

/-- The counter of trip `k` is the word `k`. -/
theorem iv_eq (k : ℕ) : Scf.iv 0#32 1#32 k = BitVec.ofNat 32 k := by
  unfold Scf.iv; simp

/-- A vector of one element, viewed with more axes, read at its one place. -/
theorem one_apply (x : FVec Ideal S1 .f32) (j : S1x1x1.Idx) : shapeCast S1x1x1 x shapeCasts_S1_S1x1x1 j = x (ix1 0) := by
  unfold shapeCast
  refine congrArg x (funext fun a => ?_)
  match a with
  | ⟨0, _⟩ => exact Subsingleton.elim (α := Fin 1) _ _

/-- The sum of a row. -/
theorem rowSum_apply (v : FVec Ideal S1x1024 .f32) :
    multiReduction .add [1, 2] S1 (shapeCast S1x1x1024 v shapeCasts_S1x1024_S1x1x1024) 0x00000000#32 reduces_S1x1x1024_S1 (.inl rfl) rfl (ix1 0)
      = ∑ j : Fin 1024, v (ix2 0 j) := by
  show ∑ i ∈ Finset.univ.filter (fun i => reduces_S1x1x1024_S1.drop i = ix1 0), _ = _
  rw [Shape.Reduces.sum_fiber_r3_a12]
  rw [Fin.sum_univ_one]
  exact Finset.sum_congr rfl fun j _ => ValueIdx.shapeCast_ab_1ab_apply v shapeCasts_S1x1024_S1x1x1024 0 0 j

/-- One trip: a box still standing strikes the later boxes it overlaps by more than one half. -/
theorem step_apply (k : Fin k1_t1_loop.trips) (kk : Fin 1024) (hk : k.val = kk.val) (X : FVec Ideal S1x1024 .f32) (row : Vec Ideal S1x1024 .f32) (j : Fin 1024) :
    k1_pay32 k X row (ix2 0 j)
      = if 0 < X (ix2 0 kk) then X (ix2 0 j) else if half < row (ix2 0 j) ∧ kk < j then 1 else X (ix2 0 j) := by
  unfold k1_pay32
  pointwise
  rw [one_apply, rowSum_apply]
  have hs : ∑ i : Fin 1024, select (cmpi .eq (iota .tc S1x1024 32 [1] iota_S1x1024_d1_w32) (broadcast S1x1024 (Scf.iv 0#32 1#32 k.val))) X
      (broadcast S1x1024 (0 : EReal)) (ix2 0 i) = X (ix2 0 kk) := by
    rw [Finset.sum_eq_single kk]
    · pointwise
      rw [iv_eq, hk, cmpi_eq_ofNat (by omega) (by omega), select_ofBool, if_pos rfl]
    · intro i _ hi
      pointwise
      rw [iv_eq, hk, cmpi_eq_ofNat (by omega) (by omega), select_ofBool, if_neg]
      exact fun h => hi (Fin.ext h)
    · exact fun h => absurd (Finset.mem_univ _) h
  rw [hs, iv_eq, hk, cmpi_sgt_ofNat (by omega) (by omega)]
  show Scalar.select (BitVec.ofBool (decide (0 < X (ix2 0 kk)))) (X (ix2 0 j))
    (Scalar.select (IntOp.andi (BitVec.ofBool (decide (half < row (ix2 0 j)))) _) 1 (X (ix2 0 j))) = _
  rw [andi_ofBool, ← Bool.decide_and, select_ofBool, select_ofBool]
  rfl

/-- The row of overlap ratios the trip reads. -/
theorem iouRow_apply (iou : FVec Ideal S1024x1024 .f32) (k : Fin k1_t1_loop.trips) (kk : Fin 1024) (hk : k.val = kk.val) (j : Fin 1024) (z : Fin 1) :
    iouRow iou k (ix2 z j) = iou (ix2 kk j) := by
  unfold iouRow View.ld
  refine congrArg iou ?_
  funext a
  match a with
  | ⟨0, _⟩ => exact Fin.ext (by simp [Rect.unit, Rect.emb, k1_off1, iv_eq, hk, Scalar.indexCast]; omega)
  | ⟨1, _⟩ => exact Fin.ext (by simp [Rect.unit, Rect.emb, k1_off1])

/-- Two boxes overlap by more than one half. -/
def clash (iou : FVec Ideal S1024x1024 .f32) (i j : Fin 1000) : Bool := decide (half < iou (ix2 (up i) (up j)))

/-- Before trip `k` the carried row holds a one exactly at the boxes struck by then. -/
theorem carried_apply (iou : FVec Ideal S1024x1024 .f32) (k : ℕ) (j : Fin 1000) :
    carried iou k (ix2 0 (up j)) = bit (struck (clash iou) k j) := by
  induction k generalizing j with
  | zero =>
    show k1_pay31 (F := Ideal) (ix2 0 (up j)) = _
    unfold k1_pay31
    pointwise
    simp [struck, bit]
  | succ k ih =>
    unfold carried struck
    by_cases h : k < 1000
    · rw [dif_pos (by rw [trips_eq]; exact h), dif_pos h,
        step_apply _ (up ⟨k, h⟩) rfl, iouRow_apply _ _ (up ⟨k, h⟩) rfl, ih ⟨k, h⟩, ih j]
      unfold step
      by_cases hs : struck (clash iou) k ⟨k, h⟩ = true
      · simp [hs, bit]
      · have hs' : struck (clash iou) k ⟨k, h⟩ = false := by simpa using hs
        rw [if_neg (by rw [bit_pos]; exact hs), hs']
        have hlt : (up ⟨k, h⟩ < up j) ↔ ((⟨k, h⟩ : Fin 1000) < j) := Iff.rfl
        simp only [clash, hlt, bit]
        by_cases hc : half < iou (ix2 (up ⟨k, h⟩) (up j)) <;> by_cases hj : (⟨k, h⟩ : Fin 1000) < j <;> simp [hc, hj]
    · rw [dif_neg (by rw [trips_eq]; exact h), dif_neg h, ih]

end Cert.KernelIdeal.Hand

end
-- ==== Proof.KernelOut.lean ====
/- The second region's result, entry by entry: the boxes and keys in the output order. -/
module

public import proofs.«01_k».proof.Proof.KernelLoop
public import Idealize.ShloMosaic.Lib.MatmulPlain

@[expose] public section

set_option maxRecDepth 16384

noncomputable section

namespace Cert.KernelIdeal.Hand

open Idealize.ShloMosaic Idealize.ShloMosaic.TcCoe Idealize.ShloMosaic.Tactic
open Idealize.ShloMosaic.WordCmp
open Cert.KernelIdeal.Gen Cert.Nms

/-- A sum over the padded places whose terms vanish at the padding is the sum over the boxes. -/
theorem sum_pad (f : Fin 1024 → EReal) (h : ∀ i : Fin 1024, 1000 ≤ i.val → f i = 0) : ∑ i, f i = ∑ i : Fin 1000, f (up i) := by
  have e := Fin.sum_univ_add (M := EReal) (a := 1000) (b := 24) f
  refine e.trans ?_
  rw [show ∑ i : Fin 24, f (Fin.natAdd 1000 i) = 0 from Finset.sum_eq_zero fun i _ => h _ (by simp [Fin.natAdd]), add_zero]
  rfl

/-- The mask that is one at the earlier places. -/
theorem earlier_apply (i j : Fin 1024) : k1_pay35 (F := Ideal) (ix2 i j) = if i < j then 1 else 0 := by
  unfold k1_pay35
  pointwise
  rw [cmpi_slt_ofNat (by omega) (by omega), select_ofBool]
  rfl

/-- The mask that is one on the diagonal. -/
theorem diag_apply (i j : Fin 1024) : k1_pay36 (F := Ideal) (ix2 i j) = if i = j then 1 else 0 := by
  unfold k1_pay36
  pointwise
  rw [cmpi_eq_ofNat (by omega) (by omega), select_ofBool]
  simp only [Fin.ext_iff]

/-- The padding's mask. -/
theorem padding_apply (j : Fin 1024) : k1_pay33 (ix2 0 j) = BitVec.ofBool (decide (1000 ≤ j.val)) := by
  unfold k1_pay33
  pointwise
  rw [cmpi_sge_ofNat (by omega) (by omega)]

/-- A product of two matrices, entry by entry. -/
theorem product_apply {M K N : ℕ} (lhs : FVec Ideal ⟨2, ![M, K]⟩ .f32) (rhs : FVec Ideal ⟨2, ![K, N]⟩ .f32) (r : Fin M) (c : Fin N) :
    FloatOps.matmul (DotDims.plain M K N) (some .fp32) lhs rhs (constant ⟨2, ![M, N]⟩ .f32 0x00000000#32) (ix2 r c)
      = ∑ k : Fin K, lhs (ix2 r k) * rhs (ix2 k c) := by
  refine (Ideal.matmul_plain_apply (some .fp32) lhs rhs _ r c).trans ?_
  rw [show constant (F := Ideal) ⟨2, ![M, N]⟩ .f32 0x00000000#32 (ValueIdx.ix2 r c) = 0 from Ideal.ofBits_zero_f32, zero_add]
  rfl

/-- A product with the second matrix transposed, entry by entry. -/
theorem productT_apply {M K N : ℕ} (lhs : FVec Ideal ⟨2, ![M, K]⟩ .f32) (rhs : FVec Ideal ⟨2, ![N, K]⟩ .f32) (r : Fin M) (c : Fin N) :
    FloatOps.matmul (DotDims.transposedRhs M K N) (some .fp32) lhs rhs (constant ⟨2, ![M, N]⟩ .f32 0x00000000#32) (ix2 r c)
      = ∑ k : Fin K, lhs (ix2 r k) * rhs (ix2 c k) := by
  refine (Ideal.matmul_transposedRhs_apply (some .fp32) lhs rhs _ r c).trans ?_
  rw [show constant (F := Ideal) ⟨2, ![M, N]⟩ .f32 0x00000000#32 (ValueIdx.ix2 r c) = 0 from Ideal.ofBits_zero_f32, zero_add]
  rfl

section Ranks
variable (X : FVec Ideal S1x1024 .f32)

/-- The standing boxes' mask. -/
theorem standing_apply (j : Fin 1024) : k1_pay34 X (ix2 0 j) = if X (ix2 0 j) = 0 ∧ j.val < 1000 then 1 else 0 := by
  unfold k1_pay34
  pointwise
  rw [padding_apply, xori_ofBool]
  show Scalar.select (IntOp.andi (BitVec.ofBool (decide (X (ix2 0 j) = 0))) _) (1 : EReal) 0 = _
  rw [andi_ofBool, ← decide_not, ← Bool.decide_and, select_ofBool]
  simp only [not_le]

variable {X}
variable (s : Fin 1000 → Bool) (hX : ∀ j, X (ix2 0 (up j)) = bit (s j))
include hX

theorem standing_up (j : Fin 1000) : k1_pay34 X (ix2 0 (up j)) = if s j = false then 1 else 0 := by
  rw [standing_apply, hX]
  have : (up j).val < 1000 := j.isLt
  cases hs : s j <;> simp [bit, this]

/-- The number of standing boxes at earlier places. -/
theorem standingBefore_apply (j : Fin 1000) :
    k1_pay37 X (ix2 0 (up j)) = ((Finset.univ.filter fun i => s i = false ∧ i < j).card : EReal) := by
  unfold k1_pay37
  refine (product_apply (M := 1) (K := 1024) (N := 1024) (k1_pay34 X) (k1_pay35 (F := Ideal)) 0 (up j)).trans ?_
  rw [sum_pad]
  · rw [← Finset.sum_boole]
    refine Finset.sum_congr rfl fun i _ => ?_
    rw [standing_up s hX, earlier_apply]
    have hlt : (up i < up j) ↔ (i < j) := Iff.rfl
    simp only [hlt]
    by_cases h1 : s i = false <;> by_cases h2 : i < j <;> simp [h1, h2]
  · intro i hi
    rw [standing_apply, if_neg (fun h => absurd h.2 (by omega)), zero_mul]

/-- The number of struck boxes at earlier places. -/
theorem struckBefore_apply (j : Fin 1000) :
    k1_pay38 X (ix2 0 (up j)) = ((Finset.univ.filter fun i => s i = true ∧ i < j).card : EReal) := by
  unfold k1_pay38
  refine (product_apply (M := 1) (K := 1024) (N := 1024) _ (k1_pay35 (F := Ideal)) 0 (up j)).trans ?_
  have hm : ∀ i : Fin 1024, select (andi (cmpf .ogt X (broadcast S1x1024 (Scalar.ofBits (F := Ideal) .f32 0x00000000#32))) (xori k1_pay33 (constantI S1x1024 1 1#1)))
      (broadcast S1x1024 (Scalar.ofBits (F := Ideal) .f32 0x3F800000#32)) (broadcast S1x1024 (Scalar.ofBits (F := Ideal) .f32 0x00000000#32)) (ix2 0 i)
        = if 0 < X (ix2 0 i) ∧ i.val < 1000 then 1 else 0 := fun i => by
    pointwise
    rw [padding_apply, xori_ofBool]
    show Scalar.select (IntOp.andi (BitVec.ofBool (decide (0 < X (ix2 0 i)))) _) (1 : EReal) 0 = _
    rw [andi_ofBool, ← decide_not, ← Bool.decide_and, select_ofBool]
    simp only [not_le]
  rw [sum_pad]
  · rw [← Finset.sum_boole]
    refine Finset.sum_congr rfl fun i _ => ?_
    rw [hm, earlier_apply, hX]
    have hlt : (up i < up j) ↔ (i < j) := Iff.rfl
    have hi : (up i).val < 1000 := i.isLt
    simp only [hlt, hi, and_true, bit_pos]
    by_cases h1 : s i = true <;> by_cases h2 : i < j <;> simp [h1, h2]
  · intro i hi
    rw [hm, if_neg (fun h => absurd h.2 (by omega)), zero_mul]

/-- The number of standing boxes. -/
theorem standingAll_apply : k1_pay39 X (ix1 0) = ((Finset.univ.filter fun i => s i = false).card : EReal) := by
  unfold k1_pay39
  refine (rowSum_apply _).trans ?_
  rw [sum_pad]
  · rw [← Finset.sum_boole]
    exact Finset.sum_congr rfl fun i _ => standing_up s hX i
  · intro i hi
    rw [standing_apply, if_neg (fun h => absurd h.2 (by omega))]

/-- The rank of a box, as the kernel adds it up. -/
theorem rank_apply (j : Fin 1000) :
    (if 0 < X (ix2 0 (up j)) then k1_pay39 X (ix1 0) + k1_pay38 X (ix2 0 (up j)) else k1_pay37 X (ix2 0 (up j))) = (rank s j : EReal) := by
  rw [hX, standingBefore_apply s hX, struckBefore_apply s hX, standingAll_apply s hX]
  simp only [bit_pos]
  cases hs : s j
  · rw [if_neg (by decide), rank_standing s j hs]
  · rw [if_pos rfl, rank_struck s j hs, Nat.cast_add]

end Ranks

/-- The word of the padding's rank. -/
theorem ofBits_5000 : Ideal.ofBits .f32 0x459C4000#32 = ((5000 : ℝ) : EReal) := by
  simp [Ideal.ofBits, Ideal.ieee, -EReal.coe_mul]; norm_num

section Out
variable (x1 y1 x2 y2 : FVec Ideal S1024x1 .f32) (X : FVec Ideal S1x1024 .f32) (sc : Vec Ideal S1024x1 .f32)

/-- The key column: the padding's mark, the struck boxes' mark, or the score. -/
def keyCol : FVec Ideal S1024x1 .f32 :=
  select (cmpi .sge (iota .tc S1024x1 32 [0] iota_S1024x1_d0_w32) (broadcast S1024x1 1000#32))
    (broadcast S1024x1 (Scalar.ofBits (F := Ideal) .f32 0xC0000000#32))
    (select (cmpf .ogt (matmul dot_S1024x1024_S1x1024_S1024x1_1_1_0_0_n_n (some .fp32) (k1_pay36 (F := Ideal)) X (constant S1024x1 .f32 0x00000000#32))
        (broadcast S1024x1 (Scalar.ofBits (F := Ideal) .f32 0x00000000#32)))
      (broadcast S1024x1 (Scalar.ofBits (F := Ideal) .f32 0xBF800000#32)) (shapeCast S1024x1 sc shapeCasts_S1024x1_S1024x1))

/-- The row of ranks. -/
def rankRow : FVec Ideal S1x1024 .f32 :=
  select k1_pay33 (broadcast S1x1024 (Scalar.ofBits (F := Ideal) .f32 0x459C4000#32))
    (select (cmpf .ogt X (broadcast S1x1024 (Scalar.ofBits (F := Ideal) .f32 0x00000000#32)))
      (addf (broadcast S1x1024 (extractAt ![0, 0, 0] (shapeCast S1x1x1 (k1_pay39 X) shapeCasts_S1_S1x1x1) inpos_S1x1x1_p0_0_0)) (k1_pay38 X))
      (k1_pay37 X))

/-- The selection matrix: row `r` is one at the box of rank `r`. -/
def pick : FVec Ideal S100x1024 .f32 :=
  select (cmpf .oeq (sitofp .f32 (iota .tc S100x1024 32 [0] iota_S100x1024_d0_w32)) (broadcastTo S100x1024 (rankRow X) broadcasts_S1x1024_S100x1024))
    (broadcast S100x1024 (Scalar.ofBits (F := Ideal) .f32 0x3F800000#32)) (broadcast S100x1024 (Scalar.ofBits (F := Ideal) .f32 0x00000000#32))

/-- The five columns the selection reads. -/
def feats : FVec Ideal S1024x5 .f32 :=
  concatenate S1024x5 1 [⟨S1024x1, x1⟩, ⟨S1024x1, y1⟩, ⟨S1024x1, x2⟩, ⟨S1024x1, y2⟩, ⟨S1024x1, keyCol X sc⟩]
    concatenates_S1024x1_S1024x1_S1024x1_S1024x1_S1024x1_S1024x5_d1

theorem pay1_eq : k1_pay1 x1 y1 x2 y2 X k1_pay33 k1_pay36 (k1_pay37 X) (k1_pay38 X) (k1_pay39 X) sc
    = matmul dot_S100x1024_S1024x5_S100x5_1_0_0_1_n_n (some .fp32) (pick X) (feats x1 y1 x2 y2 X sc) (constant S100x5 .f32 0x00000000#32) := by
  unfold k1_pay1 feats keyCol pick rankRow
  rfl

variable {X}
variable (s : Fin 1000 → Bool) (hX : ∀ j, X (ix2 0 (up j)) = bit (s j))
include hX

theorem rankRow_up (j : Fin 1000) : rankRow X (ix2 0 (up j)) = (rank s j : EReal) := by
  rw [← rank_apply s hX j]
  unfold rankRow
  pointwise
  rw [padding_apply, one_apply, select_ofBool, if_neg (by have := j.isLt; simp [up])]
  show Scalar.select (BitVec.ofBool (decide (0 < X (ix2 0 (up j))))) _ _ = _
  rw [select_ofBool]

omit hX in
theorem rankRow_pad (j : Fin 1024) (h : 1000 ≤ j.val) : rankRow X (ix2 0 j) = ((5000 : ℝ) : EReal) := by
  unfold rankRow
  pointwise
  rw [padding_apply, select_ofBool, if_pos h, ofBits_5000]

omit hX in
theorem pick_apply (r : Fin 100) (j : Fin 1024) : pick X (ix2 r j) = if ((r.val : ℝ) : EReal) = rankRow X (ix2 0 j) then 1 else 0 := by
  unfold pick
  rw [ValueIdx.select_apply, ValueIdx.cmpf_apply, ValueIdx.sitofp_apply]
  rw [broadcastTo_apply (rankRow X) broadcasts_S1x1024_S100x1024 (ix2 r j) (ix2 0 j) (fun ax => by
    match ax with
    | ⟨0, _⟩ => rfl
    | ⟨1, _⟩ => rfl)]
  pointwise
  show Scalar.select (BitVec.ofBool (decide (_ = _))) (1 : EReal) 0 = _
  rw [select_ofBool, show FloatOps.sitofp (F := Ideal) .f32 (BitVec.ofNat 32 r.val) = ((r.val : ℝ) : EReal) from by
    show (((BitVec.ofNat 32 r.val).toInt : ℝ) : EReal) = _
    have hr : r.val < 100 := r.isLt
    rw [show (BitVec.ofNat 32 r.val).toInt = (r.val : ℤ) from by
      rw [BitVec.toInt_eq_toNat_of_lt (by simp; omega)]; simp; omega]
    simp]

theorem pick_up (r : Fin 100) (j : Fin 1000) :
    pick X (ix2 r (up j)) = if j = sortedFrom (before s) (Fin.castLE (by decide) r) then 1 else 0 := by
  rw [pick_apply, rankRow_up s hX]
  have h : (((r.val : ℝ) : EReal) = (rank s j : EReal)) ↔ j = sortedFrom (before s) (Fin.castLE (by decide) r) := by
    rw [← rank_eq_iff, ← EReal.coe_natCast (n := rank s j), EReal.coe_eq_coe_iff, Nat.cast_inj]
    exact eq_comm
  simp only [h]

omit hX in
theorem pick_pad (r : Fin 100) (j : Fin 1024) (h : 1000 ≤ j.val) : pick X (ix2 r j) = 0 := by
  rw [pick_apply, rankRow_pad j h, if_neg]
  rw [EReal.coe_eq_coe_iff]
  have hr : r.val < 100 := r.isLt
  intro he
  have : (r.val : ℝ) < 100 := by exact_mod_cast hr
  linarith

/-- The result's row `r` is the features of the box of rank `r`. -/
theorem pay1_apply (r : Fin 100) (c : Fin 5) :
    k1_pay1 x1 y1 x2 y2 X k1_pay33 k1_pay36 (k1_pay37 X) (k1_pay38 X) (k1_pay39 X) sc (ix2 r c)
      = feats x1 y1 x2 y2 X sc (ix2 (up (sortedFrom (before s) (Fin.castLE (by decide) r))) c) := by
  rw [pay1_eq]
  refine (product_apply (M := 100) (K := 1024) (N := 5) (pick X) (feats x1 y1 x2 y2 X sc) r c).trans ?_
  rw [sum_pad]
  · rw [Finset.sum_eq_single (sortedFrom (before s) (Fin.castLE (by decide) r))]
    · rw [pick_up s hX, if_pos rfl, one_mul]
    · intro j _ hj
      rw [pick_up s hX, if_neg hj, zero_mul]
    · exact fun h => absurd (Finset.mem_univ _) h
  · intro i hi
    rw [pick_pad r i hi, zero_mul]

/-- The key of a box. -/
theorem keyCol_up (j : Fin 1000) :
    keyCol X sc (ix2 (up j) 0) = if s j then Ideal.ofBits .f32 0xBF800000#32 else sc (ix2 (up j) 0) := by
  have hm : matmul dot_S1024x1024_S1x1024_S1024x1_1_1_0_0_n_n (some .fp32) (k1_pay36 (F := Ideal)) X (constant S1024x1 .f32 0x00000000#32) (ix2 (up j) 0)
      = bit (s j) := by
    refine (productT_apply (M := 1024) (K := 1024) (N := 1) (k1_pay36 (F := Ideal)) X (up j) 0).trans ?_
    rw [Finset.sum_eq_single (up j)]
    · rw [diag_apply, if_pos rfl, one_mul, hX]
    · intro i _ hi
      rw [diag_apply, if_neg (Ne.symm hi), zero_mul]
    · exact fun h => absurd (Finset.mem_univ _) h
  unfold keyCol
  rw [shapeCast_self, ValueIdx.select_apply, ValueIdx.select_apply, ValueIdx.cmpf_apply, hm]
  pointwise
  rw [cmpi_sge_ofNat (by omega) (by omega), select_ofBool, if_neg (by have := j.isLt; simp [up])]
  show Scalar.select (BitVec.ofBool (decide (0 < bit (s j)))) _ _ = _
  rw [select_ofBool]
  simp only [bit_pos]

end Out

end Cert.KernelIdeal.Hand

end
-- ==== Proof.Selection.lean ====
/- The selected boxes in plain terms: which boxes are struck, the output order, and one entry of the result. -/
module

public import proofs.«01_k».proof.Proof.Spec
public import proofs.«01_k».proof.Proof.Order

@[expose] public section

noncomputable section

namespace Cert.Nms

open Idealize.ShloMosaic

/-- Minus one. -/
abbrev minusOne : EReal := Ideal.ofBits .f32 0xBF800000#32

/-- Boxes `i` and `j` overlap by more than a half. -/
def clashes (b : Fin 1000 → Fin 4 → EReal) (i j : Fin 1000) : Bool := decide (half < overlap (b i) (b j))

/-- The boxes struck at the end. -/
def gone (b : Fin 1000 → Fin 4 → EReal) : Fin 1000 → Bool := struck (clashes b) 1000

/-- The box at place `r` of the output. -/
def chosen (b : Fin 1000 → Fin 4 → EReal) (r : Fin 100) : Fin 1000 := sortedFrom (before (gone b)) (Fin.castLE (by decide) r)

/-- The score of box `j`, minus one where it is struck. -/
def keptScore (b : Fin 1000 → Fin 4 → EReal) (v : Fin 1000 → EReal) (j : Fin 1000) : EReal := if gone b j then minusOne else v j

/-- One entry of the result: the four edges of the chosen box and its score. -/
def entry (b : Fin 1000 → Fin 4 → EReal) (v : Fin 1000 → EReal) (r : Fin 100) : Fin 5 → EReal
  | 0 => b (chosen b r) 0
  | 1 => b (chosen b r) 1
  | 2 => b (chosen b r) 2
  | 3 => b (chosen b r) 3
  | 4 => keptScore b v (chosen b r)

end Cert.Nms

end
-- ==== Proof.KernelValue.lean ====
/- The second region's result, entry by entry, from the boxes and scores its blocks hold. -/
module

public import proofs.«01_k».proof.Proof.KernelOut
public import proofs.«01_k».proof.Proof.Selection

@[expose] public section

set_option maxRecDepth 16384

noncomputable section

namespace Cert.KernelIdeal.Hand

open Idealize.ShloMosaic Idealize.ShloMosaic.TcCoe Idealize.ShloMosaic.Tactic
open Cert.KernelIdeal.Gen Cert.Nms

section Feats
variable (x1 y1 x2 y2 : FVec Ideal S1024x1 .f32) (X : FVec Ideal S1x1024 .f32) (sc : FVec Ideal S1024x1 .f32) (i : Fin 1024)

/-- The feature columns, one by one. -/
theorem feats_apply0 : feats x1 y1 x2 y2 X sc (ix2 i 0) = x1 (ix2 i 0) :=
  concatenate_apply_piece (t := S1024x5) 1 _ _ (ix2 i 0) 0 (by simp) S1024x1 x1 rfl rfl 0 rfl (ix2 i 0)
    (fun b hb => by match b with | ⟨0, _⟩ => rfl | ⟨1, _⟩ => exact absurd rfl hb) rfl
theorem feats_apply1 : feats x1 y1 x2 y2 X sc (ix2 i 1) = y1 (ix2 i 0) :=
  concatenate_apply_piece (t := S1024x5) 1 _ _ (ix2 i 1) 1 (by simp) S1024x1 y1 rfl rfl 1 rfl (ix2 i 0)
    (fun b hb => by match b with | ⟨0, _⟩ => rfl | ⟨1, _⟩ => exact absurd rfl hb) rfl
theorem feats_apply2 : feats x1 y1 x2 y2 X sc (ix2 i 2) = x2 (ix2 i 0) :=
  concatenate_apply_piece (t := S1024x5) 1 _ _ (ix2 i 2) 2 (by simp) S1024x1 x2 rfl rfl 2 rfl (ix2 i 0)
    (fun b hb => by match b with | ⟨0, _⟩ => rfl | ⟨1, _⟩ => exact absurd rfl hb) rfl
theorem feats_apply3 : feats x1 y1 x2 y2 X sc (ix2 i 3) = y2 (ix2 i 0) :=
  concatenate_apply_piece (t := S1024x5) 1 _ _ (ix2 i 3) 3 (by simp) S1024x1 y2 rfl rfl 3 rfl (ix2 i 0)
    (fun b hb => by match b with | ⟨0, _⟩ => rfl | ⟨1, _⟩ => exact absurd rfl hb) rfl
theorem feats_apply4 : feats x1 y1 x2 y2 X sc (ix2 i 4) = keyCol X sc (ix2 i 0) :=
  concatenate_apply_piece (t := S1024x5) 1 _ _ (ix2 i 4) 4 (by simp) S1024x1 (keyCol X sc) rfl rfl 4 rfl (ix2 i 0)
    (fun b hb => by match b with | ⟨0, _⟩ => rfl | ⟨1, _⟩ => exact absurd rfl hb) rfl
end Feats

/-- The second region's block, entry by entry: `b` the decoded boxes and `v` the scores of the first thousand rows. -/
theorem blockOf_apply (sc : FVec Ideal S1024x1 .f32) (p d : FVec Ideal S1024x4 .f32) (pt dt : FVec Ideal S4x1024 .f32)
    (b : Fin 1000 → Fin 4 → EReal) (v : Fin 1000 → EReal)
    (hb : ∀ j, edge (rowFn p (up j)) (rowFn d (up j)) = b j) (hbt : ∀ j, edge (colFn pt (up j)) (colFn dt (up j)) = b j)
    (hv : ∀ j, sc (ix2 (up j) 0) = v j) (r : Fin 100) (c : Fin 5) :
    blockOf (F := Ideal) sc p pt d dt (ix2 r c) = entry b v r c := by
  have hc : clash (iouOf p pt d dt) = clashes b := by
    funext i j
    unfold clash clashes
    rw [iouOf_apply, hb, hbt]
  have hX : ∀ j, carried (F := Ideal) (iouOf p pt d dt) k1_t1_loop.trips (ix2 0 (up j)) = bit (gone b j) := fun j => by
    rw [trips_eq, carried_apply, hc]
    rfl
  unfold blockOf
  rw [pay1_apply _ _ _ _ sc (gone b) hX r c]
  show feats _ _ _ _ _ _ (ix2 (up (chosen b r)) c) = _
  match c with
  | 0 => exact (feats_apply0 ..).trans ((colX1_apply ..).trans (by rw [hb]; rfl))
  | 1 => exact (feats_apply1 ..).trans ((colY1_apply ..).trans (by rw [hb]; rfl))
  | 2 => exact (feats_apply2 ..).trans ((colX2_apply ..).trans (by rw [hb]; rfl))
  | 3 => exact (feats_apply3 ..).trans ((colY2_apply ..).trans (by rw [hb]; rfl))
  | 4 => exact (feats_apply4 ..).trans ((keyCol_up sc (gone b) hX _).trans (by rw [hv]; rfl))

end Cert.KernelIdeal.Hand

end
-- ==== Proof.KernelHost.lean ====
/- What the host lays before the second region: the top scores, and the rows they name, padded and transposed. -/
module

public import proofs.«01_k».proof.Proof.KernelArray
public import proofs.«01_k».proof.Proof.TopRows
public import proofs.«01_k».proof.Proof.KernelValue
public import Idealize.ShloMosaic.Lib.KernelVsHost
public import Idealize.ShloMosaic.Lib.ValueLayout

@[expose] public section

set_option maxRecDepth 16384

noncomputable section

namespace Cert.KernelIdeal.Hand

open Idealize.ShloMosaic Idealize.ShloMosaic.TcCoe Idealize.ShloMosaic.Tactic
open Idealize.SL Idealize.SL.Sem
open Cert.KernelIdeal.Gen Cert.Nms

/-- The wrapped positions of the top scores, as one column. -/
def wrapIdx (v : FVec Ideal S20000 .f32) : IVec S1000x1 32 :=
  let w := (Host.topK S1000 0 (FloatOps.cmpfTotal (F := Ideal) (φ := .f32) .gt) v sliceFits_S20000_S1000).2
  broadcastInDim S1000x1 ![0] bcast_S1000_S1000x1_0 (select (cmpi .slt w (broadcastInDim S1000 ![] bcast_S_S1000 (constantI S_ 32 0#32)))
    (addi w (broadcastInDim S1000 ![] bcast_S_S1000 (constantI S_ 32 20000#32))) w)

/-- The rows of the top scores, padded with zeros. -/
def padRows (x : FVec Ideal S20000x4 .f32) (v : FVec Ideal S20000 .f32) : FVec Ideal S1024x4 .f32 :=
  pad S1024x4 ![0, 0] ![24, 0] ![0, 0] (Host.gather gather_S20000x4_S1000x1_S1000x4_1_0_n_n_0_1_14 x (wrapIdx v))
    (sitofp (F := Ideal) .f32 (constantI S_ 32 0#32)) pads_S1000x4_S1024x4_0240_000 h_S_

/-- The top scores, padded, as one column. -/
def padScores (v : FVec Ideal S20000 .f32) : FVec Ideal S1024x1 .f32 :=
  shapeCast S1024x1 (pad S1024 ![0] ![24] ![0] (Host.topK S1000 0 (FloatOps.cmpfTotal (F := Ideal) (φ := .f32) .gt) v sliceFits_S20000_S1000).1
    (constant S_ .f32 0xC0000000#32) pads_S1000_S1024_0240 h_S_) shapeCasts_S1024_S1024x1

section
variable (m : (ℓ : Loc nD τ sig) → Buf (Elt Ideal) ℓ) (ρ : Dev nD → PrngReg) (c : Dev nD)

/-- The scores the first region leaves. -/
abbrev scores : FVec Ideal S20000 .f32 := k0_pay1 (m ((c : Thread nD τ).loc main_arg2))

theorem W2_v7 : W2 m ρ c (Proc.devRef .tc main_v7)
    = Host.gather gather_S20000x4_S1000x1_S1000x4_1_0_n_n_0_1_14 (m ((c : Thread nD τ).loc main_arg0)) (wrapIdx (scores m c)) := by
  have hv := W1_scores m ρ c
  have hx := W1_args m ρ c main_arg0 (by decide)
  unfold wrapIdx
  show StableHlo.after hostOps1 (W1 m ρ c) _ = _
  generalize W1 m ρ c = V at hv hx ⊢
  after_results_simp
  rw [hv, hx]

theorem W2_values : W2 m ρ c (Proc.devRef .tc main_values)
    = (Host.topK S1000 0 (FloatOps.cmpfTotal (F := Ideal) (φ := .f32) .gt) (scores m c) sliceFits_S20000_S1000).1 := by
  have hv := W1_scores m ρ c
  show StableHlo.after hostOps1 (W1 m ρ c) _ = _
  generalize W1 m ρ c = V at hv ⊢
  after_results_simp
  rw [hv]

theorem W2_indices : W2 m ρ c (Proc.devRef .tc main_indices)
    = (Host.topK S1000 0 (FloatOps.cmpfTotal (F := Ideal) (φ := .f32) .gt) (scores m c) sliceFits_S20000_S1000).2 := by
  have hv := W1_scores m ρ c
  show StableHlo.after hostOps1 (W1 m ρ c) _ = _
  generalize W1 m ρ c = V at hv ⊢
  after_results_simp
  rw [hv]

theorem W2_c1 : W2 m ρ c (Proc.devRef .tc main_c_1) = constantI S_ 32 0#32 := by
  after_results_simp

theorem W3_v8 : W3 m ρ c (Proc.devRef .tc main_v8) = padRows (m ((c : Thread nD τ).loc main_arg0)) (scores m c) := by
  have h7 := W2_v7 m ρ c
  have hc := W2_c1 m ρ c
  unfold padRows
  rw [← h7, ← hc]
  show StableHlo.after hostOps1_1 (W2 m ρ c) _ = _
  generalize W2 m ρ c = V at h7 hc ⊢
  after_results_simp
  rfl

theorem W8_v8 : W8 m ρ c (Proc.devRef .tc main_v8) = padRows (m ((c : Thread nD τ).loc main_arg0)) (scores m c) := by
  rw [W8_of _ _ _ _ (by decide), W7_of _ _ _ _ (by decide), W6_of _ _ _ _ (by decide), W5_of _ _ _ _ (by decide), W4_of _ _ _ _ (by decide)]
  exact W3_v8 m ρ c

theorem W4_v15 : W4 m ρ c (Proc.devRef .tc main_v15)
    = Host.gather gather_S20000x4_S1000x1_S1000x4_1_0_n_n_0_1_14 (m ((c : Thread nD τ).loc main_arg1)) (wrapIdx (scores m c)) := by
  have hv : W3 m ρ c (Proc.devRef .tc main_indices) = _ := (W3_of m ρ c _ (by decide)).trans (W2_indices m ρ c)
  have hx := W3_args m ρ c main_arg1 (by decide)
  unfold wrapIdx
  rw [← hv]
  show StableHlo.after hostOps1_2 (W3 m ρ c) _ = _
  generalize W3 m ρ c = V at hv hx ⊢
  after_results_simp
  rw [hx]

theorem W4_c4 : W4 m ρ c (Proc.devRef .tc main_c_4) = constantI S_ 32 0#32 := by
  after_results_simp

theorem W5_v16 : W5 m ρ c (Proc.devRef .tc main_v16) = padRows (m ((c : Thread nD τ).loc main_arg1)) (scores m c) := by
  have h7 := W4_v15 m ρ c
  have hc := W4_c4 m ρ c
  unfold padRows
  rw [← h7, ← hc]
  show StableHlo.after hostOps1_3 (W4 m ρ c) _ = _
  generalize W4 m ρ c = V at h7 hc ⊢
  after_results_simp
  rfl

theorem W7_v16 : W7 m ρ c (Proc.devRef .tc main_v16) = padRows (m ((c : Thread nD τ).loc main_arg1)) (scores m c) := by
  rw [W7_of _ _ _ _ (by decide), W6_of _ _ _ _ (by decide)]
  exact W5_v16 m ρ c

theorem W8_v16 : W8 m ρ c (Proc.devRef .tc main_v16) = padRows (m ((c : Thread nD τ).loc main_arg1)) (scores m c) := by
  rw [W8_of _ _ _ _ (by decide)]
  exact W7_v16 m ρ c

theorem W7_v8 : W7 m ρ c (Proc.devRef .tc main_v8) = padRows (m ((c : Thread nD τ).loc main_arg0)) (scores m c) :=
  (W8_of m ρ c main_v8 (by decide)).symm.trans (W8_v8 m ρ c)

theorem W6_values : W6 m ρ c (Proc.devRef .tc main_values)
    = (Host.topK S1000 0 (FloatOps.cmpfTotal (F := Ideal) (φ := .f32) .gt) (scores m c) sliceFits_S20000_S1000).1 := by
  rw [W6_of _ _ _ _ (by decide), W5_of _ _ _ _ (by decide), W4_of _ _ _ _ (by decide), W3_of _ _ _ _ (by decide)]
  exact W2_values m ρ c

theorem W6_cst : W6 m ρ c (Proc.devRef .tc main_cst) = constant (F := Ideal) S_ .f32 0xC0000000#32 := by
  after_results_simp

theorem W7_v17 : W7 m ρ c (Proc.devRef .tc main_v17)
    = pad S1024 ![0] ![24] ![0] (Host.topK S1000 0 (FloatOps.cmpfTotal (F := Ideal) (φ := .f32) .gt) (scores m c) sliceFits_S20000_S1000).1
      (constant S_ .f32 0xC0000000#32) pads_S1000_S1024_0240 h_S_ := by
  have h7 := W6_values m ρ c
  have hc := W6_cst m ρ c
  rw [← h7, ← hc]
  show StableHlo.after hostOps1_5 (W6 m ρ c) _ = _
  generalize W6 m ρ c = V at h7 hc ⊢
  after_results_simp
  rfl

theorem W8_v18 : W8 m ρ c (Proc.devRef .tc main_v18) = padScores (scores m c) := by
  have h := W7_v17 m ρ c
  unfold padScores
  rw [← h]
  show StableHlo.after hostOps1_6 (W7 m ρ c) _ = _
  generalize W7 m ρ c = V at h ⊢
  after_results_simp
  rfl

theorem W8_v19 : W8 m ρ c (Proc.devRef .tc main_v19)
    = transpose S4x1024 [1, 0] (padRows (m ((c : Thread nD τ).loc main_arg0)) (scores m c)) transposes_S1024x4_S4x1024_1_0 := by
  have h := W7_v8 m ρ c
  rw [← h]
  show StableHlo.after hostOps1_6 (W7 m ρ c) _ = _
  generalize W7 m ρ c = V at h ⊢
  after_results_simp

theorem W8_v20 : W8 m ρ c (Proc.devRef .tc main_v20)
    = transpose S4x1024 [1, 0] (padRows (m ((c : Thread nD τ).loc main_arg1)) (scores m c)) transposes_S1024x4_S4x1024_1_0 := by
  have h := W7_v16 m ρ c
  rw [← h]
  show StableHlo.after hostOps1_6 (W7 m ρ c) _ = _
  generalize W7 m ρ c = V at h ⊢
  after_results_simp

end

/-- The proposal at place `j` of the top scores. -/
def topRow (v : FVec Ideal S20000 .f32) (j : Fin 1000) : Fin 20000 := byScore (fun a => v (ix1 a)) (Fin.castLE (by decide) j)

/-- A padded row of the first thousand is the row that the score order names. -/
theorem padRows_apply (x : FVec Ideal S20000x4 .f32) (v : FVec Ideal S20000 .f32) (j : Fin 1000) (q : Fin 4) :
    padRows x v (ix2 (up j) q) = rowAt x (topRow v j) q := by
  unfold padRows
  refine (pad_apply_of_inside _ _ _ _ _ pads_S1000x4_S1024x4_0240_000 h_S_ (ix2 (up j) q) (ix2 j q) fun a => ?_).trans ?_
  · match a with
    | ⟨0, _⟩ => show j.val = 0 + j.val * (0 + 1); omega
    | ⟨1, _⟩ => show q.val = 0 + q.val * (0 + 1); omega
  · exact gather_top v sliceFits_S20000_S1000 (by decide) (by decide) 20000#32 bcast_S_S1000 bcast_S_S1000 bcast_S1000_S1000x1_0
      gather_S20000x4_S1000x1_S1000x4_1_0_n_n_0_1_14 rfl rfl rfl rfl rfl x _ rfl j q

/-- A padded score of the first thousand is the score that the score order names. -/
theorem padScores_apply (v : FVec Ideal S20000 .f32) (j : Fin 1000) : padScores v (ix2 (up j) 0) = v (ix1 (topRow v j)) := by
  unfold padScores
  refine (Routing.cast12 _ shapeCasts_S1024_S1024x1 (up j) 0 (up j) (by show (up j).val = (up j).val * 1 + 0; omega)).trans ?_
  refine (pad_apply_of_inside _ _ _ _ _ pads_S1000_S1024_0240 h_S_ (ix1 (up j)) (ix1 j) fun a => ?_).trans ?_
  · match a with
    | ⟨0, _⟩ => show j.val = 0 + j.val * (0 + 1); omega
  · exact topK_val v sliceFits_S20000_S1000 (by decide) j

/-- The decoded boxes of the top scores. -/
def boxes (p d : FVec Ideal S20000x4 .f32) (v : FVec Ideal S20000 .f32) (j : Fin 1000) : Fin 4 → EReal :=
  edge (rowAt p (topRow v j)) (rowAt d (topRow v j))

theorem rowFn_pad (x : FVec Ideal S20000x4 .f32) (v : FVec Ideal S20000 .f32) (j : Fin 1000) :
    rowFn (padRows x v) (up j) = rowAt x (topRow v j) := funext fun q => padRows_apply x v j q

theorem colFn_pad (x : FVec Ideal S20000x4 .f32) (v : FVec Ideal S20000 .f32) (j : Fin 1000) :
    colFn (transpose S4x1024 [1, 0] (padRows x v) transposes_S1024x4_S4x1024_1_0) (up j) = rowAt x (topRow v j) :=
  funext fun q => (ValueIdx.transpose_ix2_apply (padRows x v) transposes_S1024x4_S4x1024_1_0 q (up j)).trans (padRows_apply x v j q)

/-- The kernel's result, entry by entry, from the three arguments. -/
theorem result_apply (m : (ℓ : Loc nD τ sig) → Buf (Elt Ideal) ℓ) (ρ : Dev nD → PrngReg) (c : Dev nD) (r : Fin 100) (k : Fin 5) :
    (W9 m ρ c (Proc.devRef .tc main_v21) : FVec Ideal S100x5 .f32) (ix2 r k)
      = entry (boxes (m ((c : Thread nD τ).loc main_arg0)) (m ((c : Thread nD τ).loc main_arg1)) (scores m c))
          (fun j => scores m c (ix1 (topRow (scores m c) j))) r k := by
  rw [W9_result, W8_v18, W8_v8, W8_v19, W8_v16, W8_v20]
  exact blockOf_apply _ _ _ _ _ _ _ (fun j => by rw [rowFn_pad, rowFn_pad]; rfl) (fun j => by rw [colFn_pad, colFn_pad]; rfl)
    (fun j => padScores_apply _ j) r k

end Cert.KernelIdeal.Hand

end
-- ==== Proof.RefRun.lean ====
/- The run of the reference: its result is what its host operations leave, its arguments are untouched, and every
   semaphore counter is at zero. -/
module

public import proofs.«01_k».proof.Proof.Gen.ReferenceIdeal.Run
public import Idealize.ShloMosaic.Lib.Quiescent

@[expose] public section

set_option maxRecDepth 16384

noncomputable section

namespace Cert.ReferenceIdeal.Hand

open Idealize.ShloMosaic Idealize.ShloMosaic.StableHlo Idealize.SL.Sem Cert.ReferenceIdeal.Gen Cert.ReferenceIdeal.Value

variable {F : FTy → Type} [FloatOps F]
variable (m : (ℓ : Loc nD τ sig) → Buf (Elt F) ℓ) (ρ : Dev nD → PrngReg)

/-- The references written by the stretches after the loop. -/
theorem hostOps0_9_writes : (hostOps0_9 : List (HloOp τ sig (Elt F))).Forall fun op =>
    op.writes ⊆ (([main_cst_22] : List (Ref sig .tc)).map (Proc.devRef (τ := τ) .tc)).toFinset :=
  forall_writes_sub_of_map rfl

theorem hostOps0_10_writes : (hostOps0_10 : List (HloOp τ sig (Elt F))).Forall fun op =>
    op.writes ⊆ (([main_call5_v0, main_call5_v1, main_v124] : List (Ref sig .tc)).map (Proc.devRef (τ := τ) .tc)).toFinset :=
  forall_writes_sub_of_map rfl

theorem hostOps0_11_writes : (hostOps0_11 : List (HloOp τ sig (Elt F))).Forall fun op =>
    op.writes ⊆ (([main_values_23, main_indices_24, main_c_25, main_v125, main_v126, main_c_26, main_v127, main_v128,
      main_v129, main_v130, main_v131, main_v132, main_v133] : List (Ref sig .tc)).map (Proc.devRef (τ := τ) .tc)).toFinset :=
  forall_writes_sub_of_map rfl

/-- A buffer that no operation of a trip writes holds, before every trip, what it held when the loop was entered. -/
theorem atK_keep (c : Dev nD) (r : Ref sig .tc) (hc : r ∉ condOps_W) (h0 : r ∉ while0Ops0_W) (h1 : r ∉ while0Ops0_1_W)
    (h2 : r ∉ while0Ops0_2_W) (k : ℕ) :
    atK m k c (Proc.devRef .tc r) = entryContents preI m c (Proc.devRef .tc r) := by
  induction k with
  | zero => rfl
  | succ k ih =>
    show after while0Ops0_2 (after while0Ops0_1 (after while0Ops0 (after condOps (atK m k c)))) (Proc.devRef .tc r) = _
    rw [after_of_writes_sub while0Ops0_2 _ while0Ops0_2_writes h2, after_of_writes_sub while0Ops0_1 _ while0Ops0_1_writes h1,
      after_of_writes_sub while0Ops0 _ while0Ops0_writes h0, after_of_writes_sub condOps _ condOps_writes hc, ih]

/-- The contents a buffer has when the stretches after the loop begin. -/
def exit (c : Dev nD) : Valuation τ sig (Elt F) := after condOps (atK m 1000 c)

theorem exit_of (c : Dev nD) (r : Ref sig .tc) (hc : r ∉ condOps_W) :
    exit m c (Proc.devRef .tc r) = atK m 1000 c (Proc.devRef .tc r) :=
  after_of_writes_sub condOps _ condOps_writes hc

theorem exit_keep (c : Dev nD) (r : Ref sig .tc) (hc : r ∉ condOps_W) (h0 : r ∉ while0Ops0_W) (h1 : r ∉ while0Ops0_1_W)
    (h2 : r ∉ while0Ops0_2_W) : exit m c (Proc.devRef .tc r) = entryContents preI m c (Proc.devRef .tc r) :=
  (exit_of m c r hc).trans (atK_keep m c r hc h0 h1 h2 1000)

/-- What the program leaves is what the stretches after the loop make of the loop's exit. -/
theorem final_eq (c : Dev nD) : finalContents condOps preI bodyI postI 1000 m c
    = after hostOps0_11 (after hostOps0_10 (after hostOps0_9 (exit m c))) := rfl

/-- An argument is written by no stretch before the loop. -/
theorem entry_arg (c : Dev nD) (r : Ref sig .tc) (hr : r ∈ ([main_arg0, main_arg1, main_arg2] : List (Ref sig .tc))) :
    entryContents preI m c (Proc.devRef .tc r) = m ((c.tc : Thread nD τ).loc r) := by
  show after hostOps0_8 (after hostOps0_7 (after hostOps0_6 (after hostOps0_5 (after hostOps0_4 (after hostOps0_3
    (after hostOps0_2 (after hostOps0_1 (after hostOps0 (launchContents m c))))))))) (Proc.devRef .tc r) = _
  fin_cases hr <;>
  rw [after_of_writes_sub hostOps0_8 _ hostOps0_8_writes (by decide +kernel), after_of_writes_sub hostOps0_7 _ hostOps0_7_writes (by decide +kernel),
    after_of_writes_sub hostOps0_6 _ hostOps0_6_writes (by decide +kernel), after_of_writes_sub hostOps0_5 _ hostOps0_5_writes (by decide +kernel),
    after_of_writes_sub hostOps0_4 _ hostOps0_4_writes (by decide +kernel), after_of_writes_sub hostOps0_3 _ hostOps0_3_writes (by decide +kernel),
    after_of_writes_sub hostOps0_2 _ hostOps0_2_writes (by decide +kernel), after_of_writes_sub hostOps0_1 _ hostOps0_1_writes (by decide +kernel),
    after_of_writes_sub hostOps0 _ hostOps0_writes (by decide +kernel)]

/-- An argument is as launched when the program ends. -/
theorem final_arg (c : Dev nD) (r : Ref sig .tc) (hr : r ∈ ([main_arg0, main_arg1, main_arg2] : List (Ref sig .tc))) :
    finalContents condOps preI bodyI postI 1000 m c (Proc.devRef .tc r) = m ((c.tc : Thread nD τ).loc r) := by
  rw [final_eq, ← entry_arg m c r hr]
  fin_cases hr <;>
  rw [after_of_writes_sub hostOps0_11 _ hostOps0_11_writes (by decide +kernel), after_of_writes_sub hostOps0_10 _ hostOps0_10_writes (by decide +kernel),
    after_of_writes_sub hostOps0_9 _ hostOps0_9_writes (by decide +kernel),
    exit_keep m c _ (by decide +kernel) (by decide +kernel) (by decide +kernel) (by decide +kernel)]

/-- Every execution of the reference ends with its result at what its operations leave, and its arguments as launched. -/
theorem run : θ_run (defs (F := F)) (onTc (τ := τ) (main (F := F))) ⟨m, fun _ => 0, ρ⟩ (fun r => ∀ c : Dev nD,
    r.2.mem ((c.tc : Thread nD τ).loc main_v133) = finalContents condOps preI bodyI postI 1000 m c (Proc.devRef .tc main_v133)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run (defs (F := F)) _ _).mono (fun _ h c =>
    ⟨h c main_v133 (by decide), (h c main_arg0 (by decide)).trans (final_arg m c _ (by simp)),
      (h c main_arg1 (by decide)).trans (final_arg m c _ (by simp)),
      (h c main_arg2 (by decide)).trans (final_arg m c _ (by simp))⟩) (run_fold m ρ)

/-- Every execution of the reference ends with its arguments as launched and every semaphore counter at zero. -/
theorem frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
    ∧ r.2.sem = fun _ => 0) :=
  (θ_run (defs (F := F)) _ _).mono (fun r h => ⟨fun c => (h c).2, sem_eq_zero_of_no_sems (by decide) r.2⟩) (run m ρ)

end Cert.ReferenceIdeal.Hand

end
-- ==== Proof.Scores.lean ====
/- The scores: a row's greatest sigmoid, as the reference writes it and as one reduction; it exceeds minus one. -/
module

public import proofs.«01_k».proof.Proof.RefRun
public import proofs.«01_k».proof.Proof.Selection
public import proofs.«01_k».proof.Proof.TopRows
public import Idealize.ShloMosaic.Lib.KernelVsHost
public import Idealize.ShloMosaic.PureOps.Ideal.Laws

@[expose] public section

set_option maxRecDepth 16384

noncomputable section

namespace Cert.ReferenceIdeal.Hand

open Idealize.ShloMosaic Idealize.ShloMosaic.StableHlo Idealize.ShloMosaic.Tactic Idealize.SL.Sem
open Cert.ReferenceIdeal.Gen Cert.ReferenceIdeal.Value Cert.Nms

/-- The rows' greatest sigmoids, as the reference computes them. -/
def rawScores (x : FVec Ideal S20000x80 .f32) : FVec Ideal S20000 .f32 :=
  Host.reduce FloatOps.maximumf (Host.divf (broadcastInDim S20000x80 ![] bcast_S_S20000x80 (constant (F := Ideal) S_ .f32 0x3F800000#32))
    (addf (broadcastInDim S20000x80 ![] bcast_S_S20000x80 (constant (F := Ideal) S_ .f32 0x3F800000#32)) (Host.exp (Host.negf x))))
    (constant (F := Ideal) S_ .f32 0xFF800000#32) reducesTo_S20000x80_S20000_d1 h_S_

/-- They are one reduction of the sigmoids. -/
theorem rawScores_eq (x : FVec Ideal S20000x80 .f32) (h' : S20000x80.Reduces [1] S20000) :
    rawScores x = multiReduction .maximumf [1] S20000 (logistic x) 0xFF800000#32 h' (.inl rfl) rfl := by
  have e : Host.divf (broadcastInDim S20000x80 ![] bcast_S_S20000x80 (constant (F := Ideal) S_ .f32 0x3F800000#32))
      (addf (broadcastInDim S20000x80 ![] bcast_S_S20000x80 (constant (F := Ideal) S_ .f32 0x3F800000#32)) (Host.exp (Host.negf x)))
      = logistic x := by
    funext i
    show Ideal.div (Ideal.ofBits .f32 0x3F800000#32) (Ideal.ofBits .f32 0x3F800000#32 + Ideal.exp (-(x i))) = Ideal.logistic (x i)
    rw [Ideal.ofBits_one_f32]
    rfl
  unfold rawScores
  rw [e]
  exact hostReduce_maximumf_eq_multiReduction _ _ _ _ h' _ _

/-- A sigmoid is not negative. -/
theorem logistic_nonneg (x : EReal) : 0 ≤ Ideal.logistic x := by
  induction x with
  | bot => rw [Ideal.logistic_bot]
  | top => rw [Ideal.logistic_top]; exact zero_le_one
  | coe r =>
    rw [Ideal.logistic_coe]
    have : (0 : ℝ) ≤ (1 + Real.exp (-r))⁻¹ := by positivity
    exact_mod_cast this

/-- Minus one is below zero. -/
theorem minusOne_lt_zero : minusOne < 0 := by
  have h : minusOne = ((-1 : ℝ) : EReal) := by
    unfold minusOne
    simp [Ideal.ofBits, Ideal.ieee, -EReal.coe_mul, -EReal.coe_neg]
    try norm_num
  rw [h]
  exact_mod_cast (by norm_num : (-1 : ℝ) < 0)

/-- Every score exceeds minus one. -/
theorem minusOne_lt_scores (x : FVec Ideal S20000x80 .f32) (h' : S20000x80.Reduces [1] S20000) (i : S20000.Idx) :
    minusOne < rawScores x i := by
  rw [rawScores_eq x h']
  refine lt_of_lt_of_le minusOne_lt_zero ?_
  refine le_of_le_of_eq ?_ (Ideal.multiReduction_maximumf_single (a := 1) (logistic x) 0xFF800000#32 h' (.inl rfl) rfl i).symm
  exact (Finset.le_fold_max _).2 (Or.inr ⟨(0 : Fin 80), Finset.mem_univ _, logistic_nonneg _⟩)

end Cert.ReferenceIdeal.Hand

end
-- ==== Proof.RefDecode.lean ====
/- The boxes the reference decodes, entry by entry. -/
module

public import proofs.«01_k».proof.Proof.RefRun
public import proofs.«01_k».proof.Proof.Spec
public import proofs.«01_k».proof.Proof.TopRows
public import Idealize.ShloMosaic.Lib.ValueLayout
public import Idealize.ShloMosaic.Lib.StableHlo.RunRead

@[expose] public section

set_option maxRecDepth 16384

noncomputable section

namespace Cert.ReferenceIdeal.Hand

open Idealize.ShloMosaic Idealize.ShloMosaic.StableHlo Idealize.ShloMosaic.Tactic Idealize.SL.Sem
open Cert.ReferenceIdeal.Gen Cert.ReferenceIdeal.Value Cert.Nms

/-- Column `k` of an array of four columns, as a list. -/
theorem col_apply {N : ℕ} (x : FVec Ideal ⟨2, ![N, 4]⟩ .f32) (k : Fin 4) (hs : (⟨2, ![N, 4]⟩ : Shape).Slices ![0, k.val] ⟨2, ![N, 1]⟩)
    (hc : (⟨2, ![N, 1]⟩ : Shape).ShapeCasts ⟨1, ![N]⟩) (i : Fin N) :
    shapeCast ⟨1, ![N]⟩ (extractStridedSlice ⟨2, ![N, 1]⟩ ![0, k.val] x hs) hc (ix1 i) = rowAt x i k := by
  refine (Routing.cast21 _ hc i 0 i (by show i.val = i.val * 1 + 0; omega)).trans ?_
  refine extractStridedSlice_apply _ x hs (ix2 i 0) (ix2 i k) fun a => ?_
  match a with
  | ⟨0, _⟩ => show i.val = 0 + i.val; omega
  | ⟨1, _⟩ => show k.val = k.val + 0; omega

/-- An entry of a list or of an array after a stretch of operations. -/
abbrev at1 {n : ℕ} (x : FVec Ideal ⟨1, ![n]⟩ .f32) (i : Fin n) : EReal := x (ix1 i)
abbrev at2 {n k : ℕ} (x : FVec Ideal ⟨2, ![n, k]⟩ .f32) (i : Fin n) (j : Fin k) : EReal := x (ix2 i j)

section
variable (V : Valuation τ sig (Elt Ideal)) (i : Fin 20000)

theorem s0_v12 : at1 (n := 20000) (after hostOps0 V (Proc.devRef .tc main_v12)) i = (rowAt (V (Proc.devRef .tc main_arg0) : FVec Ideal S20000x4 .f32) i 0 + rowAt (V (Proc.devRef .tc main_arg0) : FVec Ideal S20000x4 .f32) i 2) * half := by
  have h0 := col_apply (V (Proc.devRef .tc main_arg0)) 0 slices_S20000x4_S20000x1_0_0 shapeCasts_S20000x1_S20000 i
  have h2 := col_apply (V (Proc.devRef .tc main_arg0)) 2 slices_S20000x4_S20000x1_0_2 shapeCasts_S20000x1_S20000 i
  after_results_simp
  rw [← h0, ← h2]
  rfl

theorem s0_v19 : at1 (n := 20000) (after hostOps0 V (Proc.devRef .tc main_v19)) i = (rowAt (V (Proc.devRef .tc main_arg0) : FVec Ideal S20000x4 .f32) i 1 + rowAt (V (Proc.devRef .tc main_arg0) : FVec Ideal S20000x4 .f32) i 3) * half := by
  have h1 := col_apply (V (Proc.devRef .tc main_arg0)) 1 slices_S20000x4_S20000x1_0_1 shapeCasts_S20000x1_S20000 i
  have h3 := col_apply (V (Proc.devRef .tc main_arg0)) 3 slices_S20000x4_S20000x1_0_3 shapeCasts_S20000x1_S20000 i
  after_results_simp
  rw [← h1, ← h3]
  rfl

theorem s0_v24 : at1 (n := 20000) (after hostOps0 V (Proc.devRef .tc main_v24)) i = rowAt (V (Proc.devRef .tc main_arg0) : FVec Ideal S20000x4 .f32) i 2 - rowAt (V (Proc.devRef .tc main_arg0) : FVec Ideal S20000x4 .f32) i 0 := by
  have h2 := col_apply (V (Proc.devRef .tc main_arg0)) 2 slices_S20000x4_S20000x1_0_2 shapeCasts_S20000x1_S20000 i
  have h0 := col_apply (V (Proc.devRef .tc main_arg0)) 0 slices_S20000x4_S20000x1_0_0 shapeCasts_S20000x1_S20000 i
  after_results_simp
  rw [← h2, ← h0]
  rfl

theorem s0_v29 : at1 (n := 20000) (after hostOps0 V (Proc.devRef .tc main_v29)) i = rowAt (V (Proc.devRef .tc main_arg0) : FVec Ideal S20000x4 .f32) i 3 - rowAt (V (Proc.devRef .tc main_arg0) : FVec Ideal S20000x4 .f32) i 1 := by
  have h3 := col_apply (V (Proc.devRef .tc main_arg0)) 3 slices_S20000x4_S20000x1_0_3 shapeCasts_S20000x1_S20000 i
  have h1 := col_apply (V (Proc.devRef .tc main_arg0)) 1 slices_S20000x4_S20000x1_0_1 shapeCasts_S20000x1_S20000 i
  after_results_simp
  rw [← h3, ← h1]
  rfl

theorem s0_v5 (k : Fin 4) : at2 (n := 20000) (k := 4) (after hostOps0 V (Proc.devRef .tc main_v5)) i k = rowAt (V (Proc.devRef .tc main_arg1) : FVec Ideal S20000x4 .f32) i k := by
  after_results_simp
  show _ * Ideal.ofBits .f32 0x3F800000#32 + Ideal.ofBits .f32 0x00000000#32 = _
  rw [Ideal.ofBits_one_f32, Ideal.ofBits_zero_f32, mul_one, add_zero]
  rfl

theorem s0_v31 : at1 (n := 20000) (after hostOps0 V (Proc.devRef .tc main_v31)) i = rowAt (V (Proc.devRef .tc main_arg1) : FVec Ideal S20000x4 .f32) i 2 := by
  rw [← s0_v5]
  have h := col_apply (N := 20000) (after hostOps0 V (Proc.devRef .tc main_v5)) 2 slices_S20000x4_S20000x1_0_2 shapeCasts_S20000x1_S20000 i
  refine Eq.trans ?_ h
  after_results_simp
  rfl

theorem s0_cst_3 : after hostOps0 V (Proc.devRef .tc main_cst_3) = constant (F := Ideal) S_ .f32 0xC0800000#32 := by
  after_results_simp
theorem s0_cst_4 : after hostOps0 V (Proc.devRef .tc main_cst_4) = constant (F := Ideal) S_ .f32 0x40800000#32 := by
  after_results_simp

theorem s1_v32 (h3 : V (Proc.devRef .tc main_cst_3) = constant (F := Ideal) S_ .f32 0xC0800000#32)
    (h4 : V (Proc.devRef .tc main_cst_4) = constant (F := Ideal) S_ .f32 0x40800000#32) :
    at1 (n := 20000) (after hostOps0_1 V (Proc.devRef .tc main_v32)) i
      = min (Ideal.ofBits .f32 0x40800000#32) (max (Ideal.ofBits .f32 0xC0800000#32) (at1 (n := 20000) (V (Proc.devRef .tc main_v31)) i)) := by
  after_results_simp
  rw [h3, h4]
  rfl

theorem s2_v34 : at1 (n := 20000) (after hostOps0_2 V (Proc.devRef .tc main_v34)) i
    = at2 (n := 20000) (k := 4) (V (Proc.devRef .tc main_v5)) i 3 := by
  have h := col_apply (N := 20000) (V (Proc.devRef .tc main_v5)) 3 slices_S20000x4_S20000x1_0_3 shapeCasts_S20000x1_S20000 i
  refine Eq.trans ?_ h
  after_results_simp
  rfl
theorem s2_cst_5 : after hostOps0_2 V (Proc.devRef .tc main_cst_5) = constant (F := Ideal) S_ .f32 0xC0800000#32 := by
  after_results_simp
theorem s2_cst_6 : after hostOps0_2 V (Proc.devRef .tc main_cst_6) = constant (F := Ideal) S_ .f32 0x40800000#32 := by
  after_results_simp

theorem s3_v35 (h3 : V (Proc.devRef .tc main_cst_5) = constant (F := Ideal) S_ .f32 0xC0800000#32)
    (h4 : V (Proc.devRef .tc main_cst_6) = constant (F := Ideal) S_ .f32 0x40800000#32) :
    at1 (n := 20000) (after hostOps0_3 V (Proc.devRef .tc main_v35)) i
      = min (Ideal.ofBits .f32 0x40800000#32) (max (Ideal.ofBits .f32 0xC0800000#32) (at1 (n := 20000) (V (Proc.devRef .tc main_v34)) i)) := by
  after_results_simp
  rw [h3, h4]
  rfl

theorem s4_v50 : at1 (n := 20000) (after hostOps0_4 V (Proc.devRef .tc main_v50)) i
    = at1 (n := 20000) (V (Proc.devRef .tc main_v12)) i + at1 (n := 20000) (V (Proc.devRef .tc main_v24)) i * at2 (n := 20000) (k := 4) (V (Proc.devRef .tc main_v5)) i 0
      - at1 (n := 20000) (V (Proc.devRef .tc main_v24)) i * Ideal.exp (at1 (n := 20000) (V (Proc.devRef .tc main_v32)) i) * half := by
  have h := col_apply (N := 20000) (V (Proc.devRef .tc main_v5)) 0 slices_S20000x4_S20000x1_0_0 shapeCasts_S20000x1_S20000 i
  unfold at2
  unfold rowAt at h
  rw [← h]
  after_results_simp
  rfl

theorem s4_v53 : at1 (n := 20000) (after hostOps0_4 V (Proc.devRef .tc main_v53)) i
    = at1 (n := 20000) (V (Proc.devRef .tc main_v19)) i + at1 (n := 20000) (V (Proc.devRef .tc main_v29)) i * at2 (n := 20000) (k := 4) (V (Proc.devRef .tc main_v5)) i 1
      - at1 (n := 20000) (V (Proc.devRef .tc main_v29)) i * Ideal.exp (at1 (n := 20000) (V (Proc.devRef .tc main_v35)) i) * half := by
  have h := col_apply (N := 20000) (V (Proc.devRef .tc main_v5)) 1 slices_S20000x4_S20000x1_0_1 shapeCasts_S20000x1_S20000 i
  unfold at2
  unfold rowAt at h
  rw [← h]
  after_results_simp
  rfl

theorem s4_v56 : at1 (n := 20000) (after hostOps0_4 V (Proc.devRef .tc main_v56)) i
    = at1 (n := 20000) (V (Proc.devRef .tc main_v12)) i + at1 (n := 20000) (V (Proc.devRef .tc main_v24)) i * at2 (n := 20000) (k := 4) (V (Proc.devRef .tc main_v5)) i 0
      + at1 (n := 20000) (V (Proc.devRef .tc main_v24)) i * Ideal.exp (at1 (n := 20000) (V (Proc.devRef .tc main_v32)) i) * half := by
  have h := col_apply (N := 20000) (V (Proc.devRef .tc main_v5)) 0 slices_S20000x4_S20000x1_0_0 shapeCasts_S20000x1_S20000 i
  unfold at2
  unfold rowAt at h
  rw [← h]
  after_results_simp
  rfl

theorem s4_v59 : at1 (n := 20000) (after hostOps0_4 V (Proc.devRef .tc main_v59)) i
    = at1 (n := 20000) (V (Proc.devRef .tc main_v19)) i + at1 (n := 20000) (V (Proc.devRef .tc main_v29)) i * at2 (n := 20000) (k := 4) (V (Proc.devRef .tc main_v5)) i 1
      + at1 (n := 20000) (V (Proc.devRef .tc main_v29)) i * Ideal.exp (at1 (n := 20000) (V (Proc.devRef .tc main_v35)) i) * half := by
  have h := col_apply (N := 20000) (V (Proc.devRef .tc main_v5)) 1 slices_S20000x4_S20000x1_0_1 shapeCasts_S20000x1_S20000 i
  unfold at2
  unfold rowAt at h
  rw [← h]
  after_results_simp
  rfl

/-- The four edge columns side by side. -/
theorem quad_apply (x0 x1 x2 x3 : FVec Ideal S20000x1 .f32) (k : Fin 4) :
    at2 (concatenate S20000x4 1 [⟨S20000x1, x0⟩, ⟨S20000x1, x1⟩, ⟨S20000x1, x2⟩, ⟨S20000x1, x3⟩]
      concatenates_S20000x1_S20000x1_S20000x1_S20000x1_S20000x4_d1) i k = at2 (![x0, x1, x2, x3] k) i 0 := by
  have hb : ∀ (k : Fin 4) (b : Fin 2), b ≠ 1 → ((ix2 i (0 : Fin 1)) b).val = ((ix2 i k) b).val := fun k b hb => by
    match b with
    | ⟨0, _⟩ => rfl
    | ⟨1, _⟩ => exact absurd rfl hb
  match k with
  | 0 => exact concatenate_apply_piece (t := S20000x4) 1 _ _ (ix2 i 0) 0 (by simp) S20000x1 x0 rfl rfl 0 rfl (ix2 i 0) (hb 0) rfl
  | 1 => exact concatenate_apply_piece (t := S20000x4) 1 _ _ (ix2 i 1) 1 (by simp) S20000x1 x1 rfl rfl 1 rfl (ix2 i 0) (hb 1) rfl
  | 2 => exact concatenate_apply_piece (t := S20000x4) 1 _ _ (ix2 i 2) 2 (by simp) S20000x1 x2 rfl rfl 2 rfl (ix2 i 0) (hb 2) rfl
  | 3 => exact concatenate_apply_piece (t := S20000x4) 1 _ _ (ix2 i 3) 3 (by simp) S20000x1 x3 rfl rfl 3 rfl (ix2 i 0) (hb 3) rfl

theorem s4_v60 : at2 (n := 20000) (k := 1) (upto hostOps0_4 V 32 (Proc.devRef .tc main_v60)) i 0
    = at1 (n := 20000) (after hostOps0_4 V (Proc.devRef .tc main_v50)) i := by
  after_reads_simp
  exact Routing.bcCol bcast_S20000_S20000x1_0 _ i

theorem s4_v61 : at2 (n := 20000) (k := 1) (upto hostOps0_4 V 32 (Proc.devRef .tc main_v61)) i 0
    = at1 (n := 20000) (after hostOps0_4 V (Proc.devRef .tc main_v53)) i := by
  after_reads_simp
  exact Routing.bcCol bcast_S20000_S20000x1_0 _ i

theorem s4_v62 : at2 (n := 20000) (k := 1) (upto hostOps0_4 V 32 (Proc.devRef .tc main_v62)) i 0
    = at1 (n := 20000) (after hostOps0_4 V (Proc.devRef .tc main_v56)) i := by
  after_reads_simp
  exact Routing.bcCol bcast_S20000_S20000x1_0 _ i

theorem s4_v63 : at2 (n := 20000) (k := 1) (upto hostOps0_4 V 32 (Proc.devRef .tc main_v63)) i 0
    = at1 (n := 20000) (after hostOps0_4 V (Proc.devRef .tc main_v59)) i := by
  after_reads_simp
  exact Routing.bcCol bcast_S20000_S20000x1_0 _ i

theorem s4_v64 (k : Fin 4) : at2 (n := 20000) (k := 4) (after hostOps0_4 V (Proc.devRef .tc main_v64)) i k
    = at1 (n := 20000) ((![after hostOps0_4 V (Proc.devRef .tc main_v50), after hostOps0_4 V (Proc.devRef .tc main_v53),
        after hostOps0_4 V (Proc.devRef .tc main_v56), after hostOps0_4 V (Proc.devRef .tc main_v59)] : Fin 4 → FVec Ideal S20000 .f32) k) i := by
  rw [after_last_write (ops := hostOps0_4) (i := 32) [main_cst_11, main_cst_12] rfl rfl (by decide) V, nary_result']
  refine (quad_apply i _ _ _ _ k).trans ?_
  match k with
  | 0 => exact s4_v60 V i
  | 1 => exact s4_v61 V i
  | 2 => exact s4_v62 V i
  | 3 => exact s4_v63 V i

theorem s4_cst_11 : after hostOps0_4 V (Proc.devRef .tc main_cst_11) = constant (F := Ideal) S_ .f32 0x00000000#32 := by
  after_results_simp
theorem s4_cst_12 : after hostOps0_4 V (Proc.devRef .tc main_cst_12) = constant (F := Ideal) S_ .f32 0x44000000#32 := by
  after_results_simp

theorem s5_v65 (h3 : V (Proc.devRef .tc main_cst_11) = constant (F := Ideal) S_ .f32 0x00000000#32)
    (h4 : V (Proc.devRef .tc main_cst_12) = constant (F := Ideal) S_ .f32 0x44000000#32) (k : Fin 4) :
    at2 (n := 20000) (k := 4) (after hostOps0_5 V (Proc.devRef .tc main_v65)) i k
      = clip (at2 (n := 20000) (k := 4) (V (Proc.devRef .tc main_v64)) i k) := by
  after_results_simp
  rw [h3, h4]
  rfl

end

section
variable (m : (ℓ : Loc nD τ sig) → Buf (Elt Ideal) ℓ) (c : Dev nD) (i : Fin 20000)

/-- The contents after the first stretches of operations. -/
def E0 : Valuation τ sig (Elt Ideal) := after hostOps0 (launchContents m c)
def E1 : Valuation τ sig (Elt Ideal) := after hostOps0_1 (E0 m c)
def E2 : Valuation τ sig (Elt Ideal) := after hostOps0_2 (E1 m c)
def E3 : Valuation τ sig (Elt Ideal) := after hostOps0_3 (E2 m c)
def E4 : Valuation τ sig (Elt Ideal) := after hostOps0_4 (E3 m c)
def E5 : Valuation τ sig (Elt Ideal) := after hostOps0_5 (E4 m c)

theorem E1_of (r : Ref sig .tc) (h : r ∉ hostOps0_1_W) : E1 m c (Proc.devRef .tc r) = E0 m c (Proc.devRef .tc r) :=
  after_of_writes_sub hostOps0_1 _ hostOps0_1_writes h
theorem E2_of (r : Ref sig .tc) (h : r ∉ hostOps0_2_W) : E2 m c (Proc.devRef .tc r) = E1 m c (Proc.devRef .tc r) :=
  after_of_writes_sub hostOps0_2 _ hostOps0_2_writes h
theorem E3_of (r : Ref sig .tc) (h : r ∉ hostOps0_3_W) : E3 m c (Proc.devRef .tc r) = E2 m c (Proc.devRef .tc r) :=
  after_of_writes_sub hostOps0_3 _ hostOps0_3_writes h

/-- A buffer that only the first stretch writes, read three stretches later. -/
theorem E3_E0 (r : Ref sig .tc) (h1 : r ∉ hostOps0_1_W) (h2 : r ∉ hostOps0_2_W) (h3 : r ∉ hostOps0_3_W) :
    E3 m c (Proc.devRef .tc r) = E0 m c (Proc.devRef .tc r) := by
  rw [E3_of m c r h3, E2_of m c r h2, E1_of m c r h1]

/-- The two array arguments. -/
abbrev argP : FVec Ideal S20000x4 .f32 := m ((c.tc : Thread nD τ).loc main_arg0)
abbrev argD : FVec Ideal S20000x4 .f32 := m ((c.tc : Thread nD τ).loc main_arg1)

/-- A scale clipped to its range. -/
abbrev clipScale (e : EReal) : EReal := min (Ideal.ofBits .f32 0x40800000#32) (max (Ideal.ofBits .f32 0xC0800000#32) e)

theorem E3_v12 : at1 (n := 20000) (E3 m c (Proc.devRef .tc main_v12)) i = (rowAt (argP m c) i 0 + rowAt (argP m c) i 2) * half := by
  rw [E3_E0 m c _ (by decide +kernel) (by decide +kernel) (by decide +kernel)]
  exact s0_v12 _ i
theorem E3_v19 : at1 (n := 20000) (E3 m c (Proc.devRef .tc main_v19)) i = (rowAt (argP m c) i 1 + rowAt (argP m c) i 3) * half := by
  rw [E3_E0 m c _ (by decide +kernel) (by decide +kernel) (by decide +kernel)]
  exact s0_v19 _ i
theorem E3_v24 : at1 (n := 20000) (E3 m c (Proc.devRef .tc main_v24)) i = rowAt (argP m c) i 2 - rowAt (argP m c) i 0 := by
  rw [E3_E0 m c _ (by decide +kernel) (by decide +kernel) (by decide +kernel)]
  exact s0_v24 _ i
theorem E3_v29 : at1 (n := 20000) (E3 m c (Proc.devRef .tc main_v29)) i = rowAt (argP m c) i 3 - rowAt (argP m c) i 1 := by
  rw [E3_E0 m c _ (by decide +kernel) (by decide +kernel) (by decide +kernel)]
  exact s0_v29 _ i
theorem E3_v5 (k : Fin 4) : at2 (n := 20000) (k := 4) (E3 m c (Proc.devRef .tc main_v5)) i k = rowAt (argD m c) i k := by
  rw [E3_E0 m c _ (by decide +kernel) (by decide +kernel) (by decide +kernel)]
  exact s0_v5 _ i k
theorem E3_v32 : at1 (n := 20000) (E3 m c (Proc.devRef .tc main_v32)) i = clipScale (rowAt (argD m c) i 2) := by
  rw [E3_of m c _ (by decide +kernel), E2_of m c _ (by decide +kernel)]
  refine (s1_v32 (E0 m c) i (s0_cst_3 _) (s0_cst_4 _)).trans ?_
  rw [show at1 (n := 20000) (E0 m c (Proc.devRef .tc main_v31)) i = _ from s0_v31 _ i]
theorem E3_v35 : at1 (n := 20000) (E3 m c (Proc.devRef .tc main_v35)) i = clipScale (rowAt (argD m c) i 3) := by
  refine (s3_v35 (E2 m c) i (s2_cst_5 _) (s2_cst_6 _)).trans ?_
  rw [show at1 (n := 20000) (E2 m c (Proc.devRef .tc main_v34)) i = _ from s2_v34 _ i, E1_of m c _ (by decide +kernel),
    show at2 (n := 20000) (k := 4) (E0 m c (Proc.devRef .tc main_v5)) i 3 = _ from s0_v5 _ i 3]

theorem E4_v64 (k : Fin 4) : clip (at2 (n := 20000) (k := 4) (E4 m c (Proc.devRef .tc main_v64)) i k)
    = edge (rowAt (argP m c) i) (rowAt (argD m c) i) k := by
  refine (congrArg clip (s4_v64 (E3 m c) i k)).trans ?_
  match k with
  | 0 => exact (congrArg clip (s4_v50 (E3 m c) i)).trans (by rw [E3_v12, E3_v24, E3_v5, E3_v32]; rfl)
  | 1 => exact (congrArg clip (s4_v53 (E3 m c) i)).trans (by rw [E3_v19, E3_v29, E3_v5, E3_v35]; rfl)
  | 2 => exact (congrArg clip (s4_v56 (E3 m c) i)).trans (by rw [E3_v12, E3_v24, E3_v5, E3_v32]; rfl)
  | 3 => exact (congrArg clip (s4_v59 (E3 m c) i)).trans (by rw [E3_v19, E3_v29, E3_v5, E3_v35]; rfl)

/-- The decoded boxes: edge `k` of proposal `i`. -/
theorem E5_v65 (k : Fin 4) : at2 (n := 20000) (k := 4) (E5 m c (Proc.devRef .tc main_v65)) i k
    = edge (rowAt (argP m c) i) (rowAt (argD m c) i) k :=
  (s5_v65 (E4 m c) i (s4_cst_11 _) (s4_cst_12 _) k).trans (E4_v64 m c i k)

end
end Cert.ReferenceIdeal.Hand

end
-- ==== Proof.RefTop.lean ====
/- The reference's top scores, the boxes they name, and the overlap ratios of those boxes. -/
module

public import proofs.«01_k».proof.Proof.Scores
public import proofs.«01_k».proof.Proof.RefDecode
public import Idealize.ShloMosaic.Lib.ValueLayout

@[expose] public section

set_option maxRecDepth 16384

noncomputable section

namespace Cert.ReferenceIdeal.Hand

open Idealize.ShloMosaic Idealize.ShloMosaic.StableHlo Idealize.ShloMosaic.Tactic Idealize.SL.Sem
open Cert.ReferenceIdeal.Gen Cert.ReferenceIdeal.Value Cert.Nms

/-- The proposal at place `j` of the top scores. -/
def topOf (v : FVec Ideal S20000 .f32) (j : Fin 1000) : Fin 20000 := byScore (fun a => v (ix1 a)) (Fin.castLE (by decide) j)

/-- An entry of an array of three axes. -/
abbrev at3 {a b d : ℕ} (x : FVec Ideal ⟨3, ![a, b, d]⟩ .f32) (i : Fin a) (j : Fin b) (k : Fin d) : EReal := x (ix3 i j k)

/-- Two columns from `o` on, laid along the first axis of a cube. -/
theorem cube_row (x : FVec Ideal S1000x4 .f32) (o : ℕ) (hs : S1000x4.Slices ![0, o] S1000x2) (i j : Fin 1000) (q : Fin 2) (k : Fin 4)
    (hk : k.val = o + q.val) :
    broadcastInDim S1000x1000x2 ![0, 1, 2] bcast_S1000x1x2_S1000x1000x2_0_1_2
      (broadcastInDim S1000x1x2 ![0, 2] bcast_S1000x2_S1000x1x2_0_2 (extractStridedSlice S1000x2 ![0, o] x hs)) (ix3 i j q) = rowAt x i k := by
  refine (broadcastInDim_apply _ _ _ (ix3 i j q) (ix3 i (0 : Fin 1) q) fun a => ?_).trans ?_
  · match a with
    | ⟨0, _⟩ => rfl
    | ⟨1, _⟩ => rfl
    | ⟨2, _⟩ => rfl
  refine (broadcastInDim_apply _ _ _ (ix3 i (0 : Fin 1) q) (ix2 i q) fun a => ?_).trans ?_
  · match a with
    | ⟨0, _⟩ => rfl
    | ⟨1, _⟩ => rfl
  refine extractStridedSlice_apply _ x hs (ix2 i q) (ix2 i k) fun a => ?_
  match a with
  | ⟨0, _⟩ => exact (Nat.zero_add _).symm
  | ⟨1, _⟩ => exact hk

/-- Two columns from `o` on, laid along the second axis of a cube. -/
theorem cube_col (x : FVec Ideal S1000x4 .f32) (o : ℕ) (hs : S1000x4.Slices ![0, o] S1000x2) (i j : Fin 1000) (q : Fin 2) (k : Fin 4)
    (hk : k.val = o + q.val) :
    broadcastInDim S1000x1000x2 ![0, 1, 2] bcast_S1x1000x2_S1000x1000x2_0_1_2
      (broadcastInDim S1x1000x2 ![1, 2] bcast_S1000x2_S1x1000x2_1_2 (extractStridedSlice S1000x2 ![0, o] x hs)) (ix3 i j q) = rowAt x j k := by
  refine (broadcastInDim_apply _ _ _ (ix3 i j q) (ix3 (0 : Fin 1) j q) fun a => ?_).trans ?_
  · match a with
    | ⟨0, _⟩ => rfl
    | ⟨1, _⟩ => rfl
    | ⟨2, _⟩ => rfl
  refine (broadcastInDim_apply _ _ _ (ix3 (0 : Fin 1) j q) (ix2 j q) fun a => ?_).trans ?_
  · match a with
    | ⟨0, _⟩ => rfl
    | ⟨1, _⟩ => rfl
  refine extractStridedSlice_apply _ x hs (ix2 j q) (ix2 j k) fun a => ?_
  match a with
  | ⟨0, _⟩ => exact (Nat.zero_add _).symm
  | ⟨1, _⟩ => exact hk

/-- One face of a cube, as an array of two axes. -/
theorem face_apply (x : FVec Ideal S1000x1000x2 .f32) (q : Fin 2) (hs : S1000x1000x2.Slices ![0, 0, q.val] S1000x1000x1) (i j : Fin 1000) :
    shapeCast S1000x1000 (extractStridedSlice S1000x1000x1 ![0, 0, q.val] x hs) shapeCasts_S1000x1000x1_S1000x1000 (ix2 i j) = at3 x i j q := by
  refine (shapeCast_apply _ _ (ix2 i j) (ix3 i j (0 : Fin 1)) ?_).trans ?_
  · rw [Shape.rowMajor_val_three, Shape.rowMajor_val_two]
    show (i.val * 1000 + j.val) * 1 + 0 = i.val * 1000 + j.val
    omega
  refine extractStridedSlice_apply _ x hs (ix3 i j (0 : Fin 1)) (ix3 i j q) fun a => ?_
  match a with
  | ⟨0, _⟩ => exact (Nat.zero_add _).symm
  | ⟨1, _⟩ => exact (Nat.zero_add _).symm
  | ⟨2, _⟩ => rfl

/-- The boxes' areas. -/
def areas (x : FVec Ideal S1000x4 .f32) : FVec Ideal S1000 .f32 :=
  mulf (subf (shapeCast S1000 (extractStridedSlice S1000x1 ![0, 2] x slices_S1000x4_S1000x1_0_2) shapeCasts_S1000x1_S1000)
      (shapeCast S1000 (extractStridedSlice S1000x1 ![0, 0] x slices_S1000x4_S1000x1_0_0) shapeCasts_S1000x1_S1000))
    (subf (shapeCast S1000 (extractStridedSlice S1000x1 ![0, 3] x slices_S1000x4_S1000x1_0_3) shapeCasts_S1000x1_S1000)
      (shapeCast S1000 (extractStridedSlice S1000x1 ![0, 1] x slices_S1000x4_S1000x1_0_1) shapeCasts_S1000x1_S1000))

theorem areas_apply (x : FVec Ideal S1000x4 .f32) (i : Fin 1000) : at1 (areas x) i = area (rowAt x i) := by
  have h0 := col_apply x 0 slices_S1000x4_S1000x1_0_0 shapeCasts_S1000x1_S1000 i
  have h1 := col_apply x 1 slices_S1000x4_S1000x1_0_1 shapeCasts_S1000x1_S1000 i
  have h2 := col_apply x 2 slices_S1000x4_S1000x1_0_2 shapeCasts_S1000x1_S1000 i
  have h3 := col_apply x 3 slices_S1000x4_S1000x1_0_3 shapeCasts_S1000x1_S1000 i
  unfold area
  rw [← h0, ← h1, ← h2, ← h3]
  rfl

section
variable (V : Valuation τ sig (Elt Ideal))

theorem s6_scores : after hostOps0_6 V (Proc.devRef .tc main_v72) = rawScores (V (Proc.devRef .tc main_arg2)) := by
  unfold rawScores
  after_results_simp

theorem s6_values (j : Fin 1000) : at1 (n := 1000) (after hostOps0_6 V (Proc.devRef .tc main_values)) j
    = at1 (rawScores (V (Proc.devRef .tc main_arg2))) (topOf (rawScores (V (Proc.devRef .tc main_arg2))) j) := by
  refine Eq.trans ?_ (topK_val (rawScores (V (Proc.devRef .tc main_arg2))) sliceFits_S20000_S1000 (by decide) j)
  refine congrFun (?_ : _ = (_ : FVec Ideal S1000 .f32)) (ix1 j)
  unfold rawScores
  after_results_simp

theorem s6_v79 (j : Fin 1000) (k : Fin 4) : at2 (n := 1000) (k := 4) (after hostOps0_6 V (Proc.devRef .tc main_v79)) j k
    = rowAt (V (Proc.devRef .tc main_v65) : FVec Ideal S20000x4 .f32) (topOf (rawScores (V (Proc.devRef .tc main_arg2))) j) k := by
  refine Eq.trans ?_ (gather_top (rawScores (V (Proc.devRef .tc main_arg2))) sliceFits_S20000_S1000 (by decide) (by decide) 20000#32
    bcast_S_S1000 bcast_S_S1000 bcast_S1000_S1000x1_0
    gather_S20000x4_S1000x1_S1000x4_1_0_n_n_0_1_14 rfl rfl rfl rfl rfl (V (Proc.devRef .tc main_v65)) _ rfl j k)
  refine congrFun (?_ : _ = (_ : FVec Ideal S1000x4 .f32)) (ix2 j k)
  unfold rawScores
  after_results_simp

/-- The signed extent of the common part of two boxes, on one axis. -/
theorem s6_v94 (i j : Fin 1000) (q : Fin 2) (lo hi : Fin 4) (hlo : lo.val = 0 + q.val) (hhi : hi.val = 2 + q.val) :
    at3 (a := 1000) (b := 1000) (d := 2) (after hostOps0_6 V (Proc.devRef .tc main_v94)) i j q
      = min (rowAt (after hostOps0_6 V (Proc.devRef .tc main_v79) : FVec Ideal S1000x4 .f32) i hi)
          (rowAt (after hostOps0_6 V (Proc.devRef .tc main_v79) : FVec Ideal S1000x4 .f32) j hi)
        - max (rowAt (after hostOps0_6 V (Proc.devRef .tc main_v79) : FVec Ideal S1000x4 .f32) i lo)
          (rowAt (after hostOps0_6 V (Proc.devRef .tc main_v79) : FVec Ideal S1000x4 .f32) j lo) := by
  rw [← cube_row _ 0 slices_S1000x4_S1000x2_0_0 i j q lo hlo, ← cube_col _ 0 slices_S1000x4_S1000x2_0_0 i j q lo hlo,
    ← cube_row _ 2 slices_S1000x4_S1000x2_0_2 i j q hi hhi, ← cube_col _ 2 slices_S1000x4_S1000x2_0_2 i j q hi hhi]
  after_results_simp
  rfl

theorem s6_cst : after hostOps0_6 V (Proc.devRef .tc main_cst_17) = constant (F := Ideal) S_ .f32 0x00000000#32 := by
  after_results_simp

theorem s7_v95 (h : V (Proc.devRef .tc main_cst_17) = constant (F := Ideal) S_ .f32 0x00000000#32) (i j : Fin 1000) (q : Fin 2) :
    at3 (a := 1000) (b := 1000) (d := 2) (after hostOps0_7 V (Proc.devRef .tc main_v95)) i j q
      = max (Ideal.ofBits .f32 0x00000000#32) (at3 (a := 1000) (b := 1000) (d := 2) (V (Proc.devRef .tc main_v94)) i j q) := by
  after_results_simp
  rw [h]
  rfl

/-- The common areas. -/
def commons (y : FVec Ideal S1000x1000x2 .f32) : FVec Ideal S1000x1000 .f32 :=
  mulf (shapeCast S1000x1000 (extractStridedSlice S1000x1000x1 ![0, 0, 0] y slices_S1000x1000x2_S1000x1000x1_0_0_0) shapeCasts_S1000x1000x1_S1000x1000)
    (shapeCast S1000x1000 (extractStridedSlice S1000x1000x1 ![0, 0, 1] y slices_S1000x1000x2_S1000x1000x1_0_0_1) shapeCasts_S1000x1000x1_S1000x1000)

theorem commons_apply (y : FVec Ideal S1000x1000x2 .f32) (i j : Fin 1000) : at2 (commons y) i j = at3 y i j 0 * at3 y i j 1 := by
  rw [← face_apply y 0 slices_S1000x1000x2_S1000x1000x1_0_0_0 i j, ← face_apply y 1 slices_S1000x1000x2_S1000x1000x1_0_0_1 i j]
  rfl

/-- The overlap ratios. -/
def ratios (y : FVec Ideal S1000x1000x2 .f32) (x : FVec Ideal S1000x4 .f32) : FVec Ideal S1000x1000 .f32 :=
  Host.divf (commons y) (addf (subf (addf
      (broadcastInDim S1000x1000 ![0, 1] bcast_S1000x1_S1000x1000_0_1 (broadcastInDim S1000x1 ![0] bcast_S1000_S1000x1_0 (areas x)))
      (broadcastInDim S1000x1000 ![0, 1] bcast_S1x1000_S1000x1000_0_1 (broadcastInDim S1x1000 ![1] bcast_S1000_S1x1000_1 (areas x))))
    (commons y)) (broadcastInDim S1000x1000 ![] bcast_S_S1000x1000 (constant (F := Ideal) S_ .f32 0x358637BD#32)))

theorem ratios_apply (y : FVec Ideal S1000x1000x2 .f32) (x : FVec Ideal S1000x4 .f32) (i j : Fin 1000) :
    at2 (ratios y x) i j = Ideal.div (at2 (commons y) i j) (at1 (areas x) i + at1 (areas x) j - at2 (commons y) i j + Ideal.ofBits .f32 0x358637BD#32) := by
  have hi : broadcastInDim S1000x1000 ![0, 1] bcast_S1000x1_S1000x1000_0_1 (broadcastInDim S1000x1 ![0] bcast_S1000_S1000x1_0 (areas x)) (ix2 i j)
      = at1 (areas x) i := by
    refine (broadcastInDim_apply _ _ _ (ix2 i j) (ix2 i (0 : Fin 1)) fun a => ?_).trans (broadcastInDim_apply _ _ _ _ (ix1 i) fun a => ?_)
    · match a with
      | ⟨0, _⟩ => rfl
      | ⟨1, _⟩ => rfl
    · match a with
      | ⟨0, _⟩ => rfl
  have hj : broadcastInDim S1000x1000 ![0, 1] bcast_S1x1000_S1000x1000_0_1 (broadcastInDim S1x1000 ![1] bcast_S1000_S1x1000_1 (areas x)) (ix2 i j)
      = at1 (areas x) j := by
    refine (broadcastInDim_apply _ _ _ (ix2 i j) (ix2 (0 : Fin 1) j) fun a => ?_).trans (broadcastInDim_apply _ _ _ _ (ix1 j) fun a => ?_)
    · match a with
      | ⟨0, _⟩ => rfl
      | ⟨1, _⟩ => rfl
    · match a with
      | ⟨0, _⟩ => rfl
  rw [← hi, ← hj]
  rfl

theorem s8_ratios : after hostOps0_8 V (Proc.devRef .tc main_v123_0) = ratios (V (Proc.devRef .tc main_v95)) (V (Proc.devRef .tc main_v79)) := by
  unfold ratios commons areas
  after_results_simp
  rfl

theorem s8_places : after hostOps0_8 V (Proc.devRef .tc main_v123_1) = iotaInDim S1000 32 0 := by
  after_results_simp
  rfl

theorem s8_visit : after hostOps0_8 V (Proc.devRef .tc main_v123_3) = constantI S_ 32 0#32 := by
  after_results_simp
  rfl

theorem s8_state : after hostOps0_8 V (Proc.devRef .tc main_v123_4) = broadcastInDim S1000 ![] bcast_S_S1000 (constantI S_ 1 0#1) := by
  after_results_simp
  rfl

end

section
variable (m : (ℓ : Loc nD τ sig) → Buf (Elt Ideal) ℓ) (c : Dev nD)

/-- The scores. -/
abbrev refScores : FVec Ideal S20000 .f32 := rawScores (m ((c.tc : Thread nD τ).loc main_arg2))

/-- The decoded boxes of the top scores. -/
def refBoxes (j : Fin 1000) : Fin 4 → EReal :=
  edge (rowAt (argP m c) (topOf (refScores m c) j)) (rowAt (argD m c) (topOf (refScores m c) j))

/-- The contents after the stretches that lay the top scores, and after the next. -/
def E6 : Valuation τ sig (Elt Ideal) := after hostOps0_6 (E5 m c)
def E7 : Valuation τ sig (Elt Ideal) := after hostOps0_7 (E6 m c)

theorem entry_eq : entryContents preI m c = after hostOps0_8 (E7 m c) := rfl

theorem E5_arg : E5 m c (Proc.devRef .tc main_arg2) = m ((c.tc : Thread nD τ).loc main_arg2) := by
  refine (after_of_writes_sub hostOps0_5 _ hostOps0_5_writes (by decide +kernel)).trans ?_
  refine (after_of_writes_sub hostOps0_4 _ hostOps0_4_writes (by decide +kernel)).trans ?_
  rw [E3_E0 m c _ (by decide +kernel) (by decide +kernel) (by decide +kernel)]
  exact after_of_writes_sub hostOps0 _ hostOps0_writes (by decide +kernel)

theorem E6_v79 (j : Fin 1000) : rowAt (E6 m c (Proc.devRef .tc main_v79) : FVec Ideal S1000x4 .f32) j = refBoxes m c j := by
  funext k
  refine (s6_v79 (E5 m c) j k).trans ?_
  rw [E5_arg]
  exact E5_v65 m c _ k

theorem E7_v79 : E7 m c (Proc.devRef .tc main_v79) = E6 m c (Proc.devRef .tc main_v79) :=
  after_of_writes_sub hostOps0_7 _ hostOps0_7_writes (by decide +kernel)

theorem E7_v95 (i j : Fin 1000) (q : Fin 2) (lo hi : Fin 4) (hlo : lo.val = 0 + q.val) (hhi : hi.val = 2 + q.val) :
    at3 (a := 1000) (b := 1000) (d := 2) (E7 m c (Proc.devRef .tc main_v95)) i j q
      = max (Ideal.ofBits .f32 0x00000000#32) (min (refBoxes m c i hi) (refBoxes m c j hi) - max (refBoxes m c i lo) (refBoxes m c j lo)) := by
  refine (s7_v95 (E6 m c) (s6_cst _) i j q).trans ?_
  rw [show at3 (a := 1000) (b := 1000) (d := 2) (E6 m c (Proc.devRef .tc main_v94)) i j q = _ from s6_v94 (E5 m c) i j q lo hi hlo hhi,
    ← E6_v79, ← E6_v79]
  rfl

/-- The top boxes when the loop begins. -/
theorem entry_boxes (j : Fin 1000) : rowAt (entryContents preI m c (Proc.devRef .tc main_v79) : FVec Ideal S1000x4 .f32) j = refBoxes m c j := by
  rw [entry_eq, after_of_writes_sub hostOps0_8 _ hostOps0_8_writes (by decide +kernel), E7_v79]
  exact E6_v79 m c j

/-- The top scores when the loop begins. -/
theorem entry_values (j : Fin 1000) : at1 (n := 1000) (entryContents preI m c (Proc.devRef .tc main_values)) j
    = at1 (refScores m c) (topOf (refScores m c) j) := by
  rw [entry_eq, after_of_writes_sub hostOps0_8 _ hostOps0_8_writes (by decide +kernel)]
  rw [show E7 m c (Proc.devRef .tc main_values) = E6 m c (Proc.devRef .tc main_values) from
    after_of_writes_sub hostOps0_7 _ hostOps0_7_writes (by decide +kernel)]
  refine (s6_values (E5 m c) j).trans ?_
  rw [E5_arg]

/-- The overlap ratios when the loop begins. -/
theorem entry_ratios (i j : Fin 1000) : at2 (n := 1000) (k := 1000) (entryContents preI m c (Proc.devRef .tc main_v123_0)) i j
    = overlap (refBoxes m c i) (refBoxes m c j) := by
  rw [entry_eq, s8_ratios, ratios_apply, commons_apply, areas_apply, areas_apply, E7_v79, E6_v79, E6_v79,
    E7_v95 m c i j 0 0 2 rfl rfl, E7_v95 m c i j 1 1 3 rfl rfl]
  rfl

end

end Cert.ReferenceIdeal.Hand

end
-- ==== Proof.RefLoop.lean ====
/- The reference's loop: after `k` trips the carried state holds the boxes struck by the first `k` visits. -/
module

public import proofs.«01_k».proof.Proof.RefTop
public import Idealize.ShloMosaic.Lib.WordCmp

@[expose] public section

set_option maxRecDepth 16384

noncomputable section

namespace Cert.ReferenceIdeal.Hand

open Idealize.ShloMosaic Idealize.ShloMosaic.StableHlo Idealize.ShloMosaic.Tactic Idealize.ShloMosaic.WordCmp Idealize.SL.Sem
open Cert.ReferenceIdeal.Gen Cert.ReferenceIdeal.Value Cert.Nms

/-- A start word, moved up by a thousand where it is negative. -/
def startWord (w : IVec S_ 32) : IVec S_ 32 := select (cmpi .slt w (constantI S_ 32 0#32)) (addi w (constantI S_ 32 1000#32)) w

theorem startWord_val (k : ℕ) (hk : k < 1000) (y : S_.Idx) : (startWord (constantI S_ 32 (BitVec.ofNat 32 k)) y).toInt = (k : Int) := by
  have h : startWord (constantI S_ 32 (BitVec.ofNat 32 k)) y = BitVec.ofNat 32 k :=
    Routing.wrap_of_lt _ _ (by
      show (BitVec.ofNat 32 k).toNat < 2 ^ 31
      rw [BitVec.toNat_ofNat]; exact lt_of_le_of_lt (Nat.mod_le _ _) (by omega))
  rw [h]
  exact toInt_ofNat_of_lt (by omega)

/-- Whether the visited box is struck. -/
def visited (w : IVec S_ 32) (s : IVec S1000 1) : IVec S_ 1 :=
  shapeCast S_ (Host.dynamicSlice S1 s (fun k => (((![startWord w] : Fin 1 → IVec S_ 32)) k (Shape.Idx.first h_S_)).toInt) sliceFits_S1000_S1) shapeCasts_S1_S_

/-- The visited row of the overlap ratios. -/
def visitedRow (w : IVec S_ 32) (o : FVec Ideal S1000x1000 .f32) : FVec Ideal S1000 .f32 :=
  shapeCast S1000 (Host.dynamicSlice S1x1000 o (fun k => (((![startWord w, startWord (constantI S_ 32 0#32)] : Fin 2 → IVec S_ 32)) k
    (Shape.Idx.first h_S_)).toInt) sliceFits_S1000x1000_S1x1000) shapeCasts_S1x1000_S1000

theorem visited_apply (k : Fin 1000) (s : IVec S1000 1) (y : S_.Idx) :
    visited (constantI S_ 32 (BitVec.ofNat 32 k.val)) s y = s (ix1 k) := by
  unfold visited
  rw [dynamicSlice_eq_extract S1 s _ sliceFits_S1000_S1 (fun _ => k.val)
    ⟨rfl, fun a => by match a with | ⟨0, _⟩ => show k.val + 1 ≤ 1000; omega⟩
    (fun a => by match a with | ⟨0, _⟩ => exact startWord_val k.val k.isLt _)]
  refine (shapeCast_apply _ _ y (ix1 (0 : Fin 1)) ?_).trans (extractStridedSlice_apply _ s _ (ix1 (0 : Fin 1)) (ix1 k) fun a => ?_)
  · have h1 : ((⟨0, ![]⟩ : Shape).rowMajor y).val < (⟨0, ![]⟩ : Shape).numel := Fin.isLt _
    have h2 : (S1.rowMajor (ix1 (0 : Fin 1))).val < S1.numel := Fin.isLt _
    have e1 : (⟨0, ![]⟩ : Shape).numel = 1 := by decide
    have e2 : S1.numel = 1 := by decide
    show (S1.rowMajor (ix1 (0 : Fin 1))).val = ((⟨0, ![]⟩ : Shape).rowMajor y).val
    omega
  · match a with
    | ⟨0, _⟩ => rfl

theorem visitedRow_apply (k j : Fin 1000) (o : FVec Ideal S1000x1000 .f32) :
    visitedRow (constantI S_ 32 (BitVec.ofNat 32 k.val)) o (ix1 j) = at2 o k j := by
  unfold visitedRow
  rw [dynamicSlice_eq_extract S1x1000 o _ sliceFits_S1000x1000_S1x1000 ![k.val, 0]
    ⟨rfl, fun a => by
      match a with
      | ⟨0, _⟩ => show k.val + 1 ≤ 1000; omega
      | ⟨1, _⟩ => show 0 + 1000 ≤ 1000; omega⟩
    (fun a => by
      match a with
      | ⟨0, _⟩ => exact startWord_val k.val k.isLt _
      | ⟨1, _⟩ => exact startWord_val 0 (by omega) (Shape.Idx.first h_S_))]
  refine (Routing.cast21 _ shapeCasts_S1x1000_S1000 (0 : Fin 1) j j (by show j.val = 0 * 1000 + j.val; omega)).trans ?_
  refine extractStridedSlice_apply _ o _ (ix2 (0 : Fin 1) j) (ix2 k j) fun a => ?_
  match a with
  | ⟨0, _⟩ => rfl
  | ⟨1, _⟩ => exact (Nat.zero_add _).symm

/-- One trip's state, from the ratios, the positions, the visited position and the state before. -/
def stepFn (o : FVec Ideal S1000x1000 .f32) (p : IVec S1000 32) (w : IVec S_ 32) (s : IVec S1000 1) : IVec S1000 1 :=
  select (broadcastInDim S1000 ![] bcast_S_S1000 (visited w s)) s
    (ori s (andi (cmpf .ogt (visitedRow w o) (broadcastInDim S1000 ![] bcast_S_S1000 (constant (F := Ideal) S_ .f32 0x3F000000#32)))
      (cmpi .sgt p (broadcastInDim S1000 ![] bcast_S_S1000 w))))

theorem step_eq (V : Valuation τ sig (Elt Ideal)) : step_main_v123_4 V
    = stepFn (V (Proc.devRef .tc main_v123_0)) (V (Proc.devRef .tc main_v123_1)) (V (Proc.devRef .tc main_v123_3)) (V (Proc.devRef .tc main_v123_4)) := rfl

theorem stepFn_apply (o : FVec Ideal S1000x1000 .f32) (s : IVec S1000 1) (t : Fin 1000 → Bool) (b : Fin 1000 → Fin 4 → EReal)
    (ho : ∀ i j, at2 o i j = overlap (b i) (b j)) (hs : ∀ j, s (ix1 j) = BitVec.ofBool (t j)) (k j : Fin 1000) :
    stepFn o (iotaInDim S1000 32 0) (constantI S_ 32 (BitVec.ofNat 32 k.val)) s (ix1 j) = BitVec.ofBool (step (clashes b) k t j) := by
  have hv : broadcastInDim S1000 ![] bcast_S_S1000 (visited (constantI S_ 32 (BitVec.ofNat 32 k.val)) s) (ix1 j) = BitVec.ofBool (t k) :=
    (visited_apply k s _).trans (hs k)
  have hr := visitedRow_apply k j o
  have hc : IntOp.cmpi .sgt (BitVec.ofNat 32 j.val) (BitVec.ofNat 32 k.val) = BitVec.ofBool (decide (k < j)) := by
    rw [cmpi_sgt_ofNat (by omega) (by omega)]
    rfl
  have e : stepFn o (iotaInDim S1000 32 0) (constantI S_ 32 (BitVec.ofNat 32 k.val)) s (ix1 j)
      = Scalar.select (broadcastInDim S1000 ![] bcast_S_S1000 (visited (constantI S_ 32 (BitVec.ofNat 32 k.val)) s) (ix1 j)) (s (ix1 j))
        (s (ix1 j) ||| (BitVec.ofBool (decide (half < visitedRow (constantI S_ 32 (BitVec.ofNat 32 k.val)) o (ix1 j)))
          &&& IntOp.cmpi .sgt (BitVec.ofNat 32 j.val) (BitVec.ofNat 32 k.val))) := rfl
  rw [e, hv, hs j, hr, ho, hc]
  show _ = BitVec.ofBool (if t k then t j else t j || (decide (half < overlap (b k) (b j)) && decide (k < j)))
  cases t k <;> cases t j <;> cases decide (half < overlap (b k) (b j)) <;> cases decide (k < j) <;> rfl

section
variable (V : Valuation τ sig (Elt Ideal)) (b : Fin 1000 → Fin 4 → EReal)

/-- The carried buffers after `k` trips. -/
theorem loop_state (ho : ∀ i j, at2 (n := 1000) (k := 1000) (V (Proc.devRef .tc main_v123_0)) i j = overlap (b i) (b j))
    (hp : V (Proc.devRef .tc main_v123_1) = iotaInDim S1000 32 0) (hw : V (Proc.devRef .tc main_v123_3) = constantI S_ 32 0#32)
    (hs : V (Proc.devRef .tc main_v123_4) = broadcastInDim S1000 ![] bcast_S_S1000 (constantI S_ 1 0#1)) (k : ℕ) (hk : k ≤ 1000) :
    STEP^[k] V (Proc.devRef .tc main_v123_0) = V (Proc.devRef .tc main_v123_0)
      ∧ STEP^[k] V (Proc.devRef .tc main_v123_1) = iotaInDim S1000 32 0
      ∧ STEP^[k] V (Proc.devRef .tc main_v123_3) = constantI S_ 32 (BitVec.ofNat 32 k)
      ∧ ∀ j : Fin 1000, (STEP^[k] V (Proc.devRef .tc main_v123_4) : IVec S1000 1) (ix1 j) = BitVec.ofBool (struck (clashes b) k j) := by
  induction k with
  | zero => exact ⟨rfl, hp, hw, fun j => by rw [show STEP^[0] V = V from rfl, hs]; rfl⟩
  | succ k ih =>
    obtain ⟨h0, h1, h3, h4⟩ := ih (by omega)
    rw [Function.iterate_succ_apply']
    generalize STEP^[k] V = X at h0 h1 h3 h4 ⊢
    refine ⟨(STEP_main_v123_0 X).trans h0, (STEP_main_v123_1 X).trans h1, ?_, fun j => ?_⟩
    · rw [STEP_main_v123_3]
      unfold step_main_v123_3
      rw [h3]
      funext y
      show BitVec.ofNat 32 k + 1#32 = BitVec.ofNat 32 (k + 1)
      exact (BitVec.ofNat_add k 1).symm
    · rw [STEP_main_v123_4, step_eq, h1, h3, h0]
      refine (stepFn_apply _ _ (struck (clashes b) k) b ho h4 ⟨k, by omega⟩ j).trans ?_
      rw [struck, dif_pos (show k < 1000 by omega)]

end

section
variable (m : (ℓ : Loc nD τ sig) → Buf (Elt Ideal) ℓ) (c : Dev nD)

/-- The state the loop leaves: the struck boxes. -/
theorem exit_state (j : Fin 1000) : (exit m c (Proc.devRef .tc main_v123_4) : IVec S1000 1) (ix1 j) = BitVec.ofBool (gone (refBoxes m c) j) := by
  rw [exit_of m c _ (by decide +kernel), atK_agree m c 1000 main_v123_4 (by decide)]
  exact (loop_state (entryContents preI m c) (refBoxes m c) (entry_ratios m c) (s8_places _) (s8_visit _) (s8_state _) 1000 le_rfl).2.2.2 j

end

end Cert.ReferenceIdeal.Hand

end
-- ==== Proof.RefOut.lean ====
/- The reference's result, entry by entry: the standing boxes first, each with its score. -/
module

public import proofs.«01_k».proof.Proof.RefLoop

@[expose] public section

set_option maxRecDepth 16384

noncomputable section

namespace Cert.ReferenceIdeal.Hand

open Idealize.ShloMosaic Idealize.ShloMosaic.StableHlo Idealize.ShloMosaic.Tactic Idealize.SL.Sem
open Cert.ReferenceIdeal.Gen Cert.ReferenceIdeal.Value Cert.Nms

section
variable (V : Valuation τ sig (Elt Ideal))

theorem s9_cst : after hostOps0_9 V (Proc.devRef .tc main_cst_22) = constant (F := Ideal) S_ .f32 0xBF800000#32 := by
  after_results_simp

theorem s10_v124 (h : V (Proc.devRef .tc main_cst_22) = constant (F := Ideal) S_ .f32 0xBF800000#32) (j : Fin 1000) :
    at1 (n := 1000) (after hostOps0_10 V (Proc.devRef .tc main_v124)) j
      = Scalar.select ((V (Proc.devRef .tc main_v123_4) : IVec S1000 1) (ix1 j)) minusOne (at1 (n := 1000) (V (Proc.devRef .tc main_values)) j) := by
  after_results_simp
  rw [h]
  rfl

/-- The rows and the scores of the output. -/
def outRows (x : FVec Ideal S1000x4 .f32) (v : FVec Ideal S1000 .f32) : FVec Ideal S100x4 .f32 :=
  let w := (Host.topK S100 0 (FloatOps.cmpfTotal (F := Ideal) (φ := .f32) .gt) v sliceFits_S1000_S100).2
  Host.gather gather_S1000x4_S100x1_S100x4_1_0_n_n_0_1_14 x
    (broadcastInDim S100x1 ![0] bcast_S100_S100x1_0 (select (cmpi .slt w (broadcastInDim S100 ![] bcast_S_S100 (constantI S_ 32 0#32)))
      (addi w (broadcastInDim S100 ![] bcast_S_S100 (constantI S_ 32 1000#32))) w))
def outScores (v : FVec Ideal S1000 .f32) : FVec Ideal S100x1 .f32 :=
  broadcastInDim S100x1 ![0] bcast_S100_S100x1_0 (Host.topK S100 0 (FloatOps.cmpfTotal (F := Ideal) (φ := .f32) .gt) v sliceFits_S1000_S100).1

theorem s11_v133 : after hostOps0_11 V (Proc.devRef .tc main_v133)
    = concatenate S100x5 1 [⟨S100x4, outRows (V (Proc.devRef .tc main_v79)) (V (Proc.devRef .tc main_v124))⟩,
        ⟨S100x1, outScores (V (Proc.devRef .tc main_v124))⟩] concatenates_S100x4_S100x1_S100x5_d1 := by
  rw [after_last_write (ops := hostOps0_11) (i := 12) [] rfl rfl (by decide) V, binary_result]
  have hx : upto hostOps0_11 V 12 (Proc.devRef .tc main_v131) = outRows (V (Proc.devRef .tc main_v79)) (V (Proc.devRef .tc main_v124)) := by
    unfold outRows
    after_reads_simp
  have hy : upto hostOps0_11 V 12 (Proc.devRef .tc main_v132) = outScores (V (Proc.devRef .tc main_v124)) := by
    unfold outScores
    after_reads_simp
  exact congrArg₂ (fun (a : FVec Ideal S100x4 .f32) (b : FVec Ideal S100x1 .f32) =>
    concatenate S100x5 1 [⟨S100x4, a⟩, ⟨S100x1, b⟩] concatenates_S100x4_S100x1_S100x5_d1) hx hy

/-- The place of the output's row `r` in the order of the kept scores. -/
def outOf (v : FVec Ideal S1000 .f32) (r : Fin 100) : Fin 1000 := byScore (fun a => v (ix1 a)) (Fin.castLE (by decide) r)

theorem outRows_apply (x : FVec Ideal S1000x4 .f32) (v : FVec Ideal S1000 .f32) (r : Fin 100) (k : Fin 4) :
    at2 (outRows x v) r k = rowAt x (outOf v r) k :=
  gather_top v sliceFits_S1000_S100 (by decide) (by decide) 1000#32 bcast_S_S100 bcast_S_S100 bcast_S100_S100x1_0
    gather_S1000x4_S100x1_S100x4_1_0_n_n_0_1_14 rfl rfl rfl rfl rfl x _ rfl r k

theorem outScores_apply (v : FVec Ideal S1000 .f32) (r : Fin 100) : at2 (outScores v) r 0 = at1 v (outOf v r) :=
  (Routing.bcCol bcast_S100_S100x1_0 _ r).trans (topK_val v sliceFits_S1000_S100 (by decide) r)

theorem out_edges (x : FVec Ideal S100x4 .f32) (y : FVec Ideal S100x1 .f32) (r : Fin 100) (k : Fin 4) (k' : Fin 5) (hk : k'.val = k.val) :
    concatenate S100x5 1 [⟨S100x4, x⟩, ⟨S100x1, y⟩] concatenates_S100x4_S100x1_S100x5_d1 (ix2 r k') = at2 x r k :=
  concatenate_apply_piece (t := S100x5) 1 _ _ (ix2 r k') 0 (by simp) S100x4 x rfl rfl 0 rfl (ix2 r k) (fun b hb => by
    match b with
    | ⟨0, _⟩ => rfl
    | ⟨1, _⟩ => exact absurd rfl hb) (by show 0 + k.val = k'.val; omega)

theorem out_score (x : FVec Ideal S100x4 .f32) (y : FVec Ideal S100x1 .f32) (r : Fin 100) :
    concatenate S100x5 1 [⟨S100x4, x⟩, ⟨S100x1, y⟩] concatenates_S100x4_S100x1_S100x5_d1 (ix2 r (4 : Fin 5)) = at2 y r 0 :=
  concatenate_apply_piece (t := S100x5) 1 _ _ (ix2 r (4 : Fin 5)) 1 (by simp) S100x1 y rfl rfl 4 rfl (ix2 r (0 : Fin 1)) (fun b hb => by
    match b with
    | ⟨0, _⟩ => rfl
    | ⟨1, _⟩ => exact absurd rfl hb) rfl

end

section
variable (m : (ℓ : Loc nD τ sig) → Buf (Elt Ideal) ℓ) (c : Dev nD)

/-- The contents when the last stretch begins. -/
def X10 : Valuation τ sig (Elt Ideal) := after hostOps0_10 (after hostOps0_9 (exit m c))

/-- The top scores in order. -/
def topScores (j : Fin 1000) : EReal := at1 (refScores m c) (topOf (refScores m c) j)

theorem X10_boxes (j : Fin 1000) : rowAt (X10 m c (Proc.devRef .tc main_v79) : FVec Ideal S1000x4 .f32) j = refBoxes m c j := by
  unfold X10
  rw [after_of_writes_sub hostOps0_10 _ hostOps0_10_writes (by decide +kernel), after_of_writes_sub hostOps0_9 _ hostOps0_9_writes (by decide +kernel),
    exit_keep m c _ (by decide +kernel) (by decide +kernel) (by decide +kernel) (by decide +kernel)]
  exact entry_boxes m c j

theorem X10_kept (j : Fin 1000) : at1 (n := 1000) (X10 m c (Proc.devRef .tc main_v124)) j = keptScore (refBoxes m c) (topScores m c) j := by
  refine (s10_v124 (after hostOps0_9 (exit m c)) (s9_cst _) j).trans ?_
  rw [after_of_writes_sub hostOps0_9 _ hostOps0_9_writes (by decide +kernel), after_of_writes_sub hostOps0_9 _ hostOps0_9_writes (by decide +kernel),
    exit_state, exit_keep m c main_values (by decide +kernel) (by decide +kernel) (by decide +kernel) (by decide +kernel), entry_values]
  unfold keptScore topScores
  cases gone (refBoxes m c) j <;> rfl

/-- The order of the kept scores is the output order. -/
theorem X10_order (h' : S20000x80.Reduces [1] S20000) (r : Fin 100) : outOf (X10 m c (Proc.devRef .tc main_v124)) r = chosen (refBoxes m c) r := by
  have e : (fun a : Fin 1000 => (X10 m c (Proc.devRef .tc main_v124) : FVec Ideal S1000 .f32) (ix1 a))
      = fun j => if gone (refBoxes m c) j then minusOne else topScores m c j := funext (X10_kept m c)
  unfold outOf chosen byScore
  rw [e]
  exact congrFun (sortedFrom_scores (gone (refBoxes m c)) (topScores m c) minusOne (fun j => minusOne_lt_scores _ h' _)
    (fun i j hij => byScore_desc _ _ _ (by exact hij))) _

/-- The reference's result, entry by entry. -/
theorem final_apply (h' : S20000x80.Reduces [1] S20000) (r : Fin 100) (k : Fin 5) :
    at2 (n := 100) (k := 5) (finalContents condOps preI bodyI postI 1000 m c (Proc.devRef .tc main_v133)) r k
      = entry (refBoxes m c) (topScores m c) r k := by
  have hx : finalContents condOps preI bodyI postI 1000 m c (Proc.devRef .tc main_v133) = _ := s11_v133 (X10 m c)
  have hrow : ∀ k : Fin 4, at2 (outRows (X10 m c (Proc.devRef .tc main_v79)) (X10 m c (Proc.devRef .tc main_v124))) r k
      = refBoxes m c (chosen (refBoxes m c) r) k := fun k => by
    rw [outRows_apply, X10_order m c h', X10_boxes]
  rw [hx]
  match k with
  | 0 => exact (out_edges _ _ r 0 0 rfl).trans (hrow 0)
  | 1 => exact (out_edges _ _ r 1 1 rfl).trans (hrow 1)
  | 2 => exact (out_edges _ _ r 2 2 rfl).trans (hrow 2)
  | 3 => exact (out_edges _ _ r 3 3 rfl).trans (hrow 3)
  | 4 => exact (out_score _ _ r).trans ((outScores_apply _ r).trans (by rw [X10_order m c h', X10_kept]; rfl))

end

end Cert.ReferenceIdeal.Hand

end
-- ==== Proof.Equation.lean ====
/- The two programs leave the same result when their arguments agree. -/
module

public import proofs.«01_k».proof.Proof.KernelRun
public import proofs.«01_k».proof.Proof.KernelHost
public import proofs.«01_k».proof.Proof.RefOut

@[expose] public section

set_option maxRecDepth 16384

noncomputable section

namespace Cert.Nms

open Idealize.ShloMosaic Idealize.ShloMosaic.TcCoe Idealize.ShloMosaic.StableHlo Idealize.SL.Sem

/-- The reference's scores are the kernel's. -/
theorem scores_eq (x : FVec Ideal Cert.KernelIdeal.S20000x80 .f32) :
    Cert.ReferenceIdeal.Hand.rawScores x = Cert.KernelIdeal.Gen.k0_pay1 x :=
  Cert.ReferenceIdeal.Hand.rawScores_eq x Cert.KernelIdeal.Gen.reduces_S20000x80_S20000

section
variable (m : (ℓ : Loc Cert.KernelIdeal.nD Cert.KernelIdeal.τ Cert.KernelIdeal.sig) → Buf (Elt Ideal) ℓ)
  (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- On equal arguments the reference's result is the kernel's. -/
theorem result_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (finalContents Cert.ReferenceIdeal.Value.condOps Cert.ReferenceIdeal.Value.preI Cert.ReferenceIdeal.Value.bodyI Cert.ReferenceIdeal.Value.postI 1000 m' c
        (Proc.devRef .tc Cert.ReferenceIdeal.main_v133) : FVec Ideal Cert.KernelIdeal.S100x5 .f32)
      = Cert.KernelIdeal.Gen.W9 m g c (Proc.devRef .tc Cert.KernelIdeal.main_v21) := by
  have hs : Cert.ReferenceIdeal.Hand.refScores m' c = Cert.KernelIdeal.Hand.scores m c :=
    (congrArg Cert.ReferenceIdeal.Hand.rawScores h2).trans (scores_eq _)
  have hb : Cert.ReferenceIdeal.Hand.refBoxes m' c
      = Cert.KernelIdeal.Hand.boxes (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (Cert.KernelIdeal.Hand.scores m c) := by
    funext j
    unfold Cert.ReferenceIdeal.Hand.refBoxes Cert.ReferenceIdeal.Hand.argP Cert.ReferenceIdeal.Hand.argD
    rw [hs, h0, h1]
    rfl
  have hv : Cert.ReferenceIdeal.Hand.topScores m' c
      = fun j => Cert.KernelIdeal.Hand.scores m c (ix1 (Cert.KernelIdeal.Hand.topRow (Cert.KernelIdeal.Hand.scores m c) j)) := by
    funext j
    unfold Cert.ReferenceIdeal.Hand.topScores
    rw [hs]
    rfl
  funext y
  rw [eq_ix2 y]
  refine (Cert.ReferenceIdeal.Hand.final_apply m' c Cert.KernelIdeal.Gen.reduces_S20000x80_S20000 (y 0) (y 1)).trans ?_
  rw [hb, hv]
  exact (Cert.KernelIdeal.Hand.result_apply m g c (y 0) (y 1)).symm

end

end Cert.Nms

end
-- ==== Proof.lean ====
/- The certificate's claims, assembled: the frames of the three programs, the idealization, and the equal results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Over the extended reals the kernel and the reference end with equal results on equal arguments. -/
theorem equal_results : algebraic_KernelIdeal_ReferenceIdeal (hKernelIdeal := Cert.KernelIdeal.Gen.facts)
    (hReferenceIdeal := Cert.ReferenceIdeal.Gen.facts) := fun m g m' g' _ h =>
  ⟨fun c => Cert.KernelIdeal.Gen.W9 m g c (Proc.devRef .tc Cert.KernelIdeal.main_v21), Cert.KernelIdeal.Hand.run m g,
    (θ_run _ _ _).mono (fun _ hr c => ⟨(hr c).1.trans (Cert.Nms.result_eq m g m' c (h c).1 (h c).2.1 (h c).2.2), (hr c).2⟩)
      (Cert.ReferenceIdeal.Hand.run m' g')⟩

/-- Every claim of the certificate. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.ReferenceIdeal.Hand.frame m g, trivial, equal_results⟩

end Cert.Proof

end
